-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x6144x2560 : Shape := ⟨3, ![4, 6144, 2560]⟩
abbrev S4x6144x5120 : Shape := ⟨3, ![4, 6144, 5120]⟩
abbrev S_ : Shape := ⟨0, ![]⟩

class Facts : Prop where
  bcast_S_S4x6144x2560 : S_.BroadcastsInDim S4x6144x2560 (![] : Fin 0 → Fin S4x6144x2560.rank)
  bcast_S_S4x6144x5120 : S_.BroadcastsInDim S4x6144x5120 (![] : Fin 0 → Fin S4x6144x5120.rank)

variable [Facts]

def fn {F : FTy → Type} [FloatOps F] (main_arg0 : FVec F S4x6144x2560 .bf16) (main_arg1 : FVec F S4x6144x5120 .bf16) : IVec S4x6144x2560 1 × IVec S4x6144x5120 1 :=
  let main_v0 : FVec F S4x6144x2560 .bf16 := Host.absf main_arg0
  let main_cst : FVec F S_ .bf16 := constant S_ .bf16 0x7F7F#16
  let main_v1 : FVec F S4x6144x2560 .bf16 := broadcastInDim S4x6144x2560 ![] bcast_S_S4x6144x2560 main_cst
  let main_v2 : IVec S4x6144x2560 1 := cmpf .ole main_v0 main_v1
  let main_v3 : FVec F S4x6144x5120 .bf16 := Host.absf main_arg1
  let main_cst_0 : FVec F S_ .bf16 := constant S_ .bf16 0x7F7F#16
  let main_v4 : FVec F S4x6144x5120 .bf16 := broadcastInDim S4x6144x5120 ![] bcast_S_S4x6144x5120 main_cst_0
  let main_v5 : IVec S4x6144x5120 1 := cmpf .ole main_v3 main_v4
  (main_v2, main_v5)
-- ==== Kernel.lean ====
abbrev S4x6144x2560 : Shape := ⟨3, ![4, 6144, 2560]⟩
abbrev S4x6144x5120 : Shape := ⟨3, ![4, 6144, 5120]⟩
abbrev S24576x2560 : Shape := ⟨2, ![24576, 2560]⟩
abbrev S24576x5120 : Shape := ⟨2, ![24576, 5120]⟩
abbrev S2560x24576 : Shape := ⟨2, ![2560, 24576]⟩
abbrev S192x1x2560 : Shape := ⟨3, ![192, 1, 2560]⟩
abbrev S512x2560 : Shape := ⟨2, ![512, 2560]⟩
abbrev S2560x512 : Shape := ⟨2, ![2560, 512]⟩
abbrev S4x1x2560 : Shape := ⟨3, ![4, 1, 2560]⟩
abbrev S128x512 : Shape := ⟨2, ![128, 512]⟩
abbrev S16x512 : Shape := ⟨2, ![16, 512]⟩
abbrev S512 : Shape := ⟨1, ![512]⟩
abbrev S1x512 : Shape := ⟨2, ![1, 512]⟩
abbrev S1x1x512 : Shape := ⟨3, ![1, 1, 512]⟩
abbrev S512x128 : Shape := ⟨2, ![512, 128]⟩
abbrev S2560x5120 : Shape := ⟨2, ![2560, 5120]⟩
abbrev S5120x24576 : Shape := ⟨2, ![5120, 24576]⟩
abbrev S192x1x5120 : Shape := ⟨3, ![192, 1, 5120]⟩
abbrev S2560x1024 : Shape := ⟨2, ![2560, 1024]⟩
abbrev S1024x1280 : Shape := ⟨2, ![1024, 1280]⟩
abbrev S2560x1280 : Shape := ⟨2, ![2560, 1280]⟩
abbrev S1280x1024 : Shape := ⟨2, ![1280, 1024]⟩
abbrev S8x1x1280 : Shape := ⟨3, ![8, 1, 1280]⟩
abbrev S128x256 : Shape := ⟨2, ![128, 256]⟩
abbrev S16x256 : Shape := ⟨2, ![16, 256]⟩
abbrev S256 : Shape := ⟨1, ![256]⟩
abbrev S1x256 : Shape := ⟨2, ![1, 256]⟩
abbrev S1x1x256 : Shape := ⟨3, ![1, 1, 256]⟩
abbrev S256x128 : Shape := ⟨2, ![256, 128]⟩
abbrev S2560x256 : Shape := ⟨2, ![2560, 256]⟩
abbrev S1024x256 : Shape := ⟨2, ![1024, 256]⟩
abbrev S192x2560 : Shape := ⟨2, ![192, 2560]⟩
abbrev S2560x192 : Shape := ⟨2, ![2560, 192]⟩
abbrev S192x5120 : Shape := ⟨2, ![192, 5120]⟩
abbrev S5120x192 : Shape := ⟨2, ![5120, 192]⟩

abbrev nBuf : Space → Nat
  | .hbm => 14
  | .vmem => 19
  | .smem => 0
  | _ => 0

abbrev bufTy : (tb : Table) → Fin (tcTables nBuf tb) → BufTy
  | .hbm, ⟨0, _⟩ => ⟨S4x6144x2560, .bf16⟩
  | .hbm, ⟨1, _⟩ => ⟨S4x6144x5120, .bf16⟩
  | .hbm, ⟨2, _⟩ => ⟨S24576x2560, .bf16⟩
  | .hbm, ⟨3, _⟩ => ⟨S24576x5120, .bf16⟩
  | .hbm, ⟨4, _⟩ => ⟨S2560x24576, .fp8e4m3⟩
  | .hbm, ⟨5, _⟩ => ⟨S192x1x2560, .f32⟩
  | .hbm, ⟨6, _⟩ => ⟨S2560x24576, .bf16⟩
  | .hbm, ⟨7, _⟩ => ⟨S2560x5120, .f32⟩
  | .hbm, ⟨8, _⟩ => ⟨S5120x24576, .fp8e5m2⟩
  | .hbm, ⟨9, _⟩ => ⟨S192x1x5120, .f32⟩
  | .hbm, ⟨10, _⟩ => ⟨S192x2560, .f32⟩
  | .hbm, ⟨11, _⟩ => ⟨S2560x192, .f32⟩
  | .hbm, ⟨12, _⟩ => ⟨S192x5120, .f32⟩
  | .hbm, ⟨13, _⟩ => ⟨S5120x192, .f32⟩
  | .local _ .vmem, ⟨0, _⟩ => ⟨S512x2560, .bf16⟩
  | .local _ .vmem, ⟨1, _⟩ => ⟨S512x2560, .bf16⟩
  | .local _ .vmem, ⟨2, _⟩ => ⟨S2560x512, .fp8e4m3⟩
  | .local _ .vmem, ⟨3, _⟩ => ⟨S2560x512, .fp8e4m3⟩
  | .local _ .vmem, ⟨4, _⟩ => ⟨S4x1x2560, .f32⟩
  | .local _ .vmem, ⟨5, _⟩ => ⟨S4x1x2560, .f32⟩
  | .local _ .vmem, ⟨6, _⟩ => ⟨S2560x512, .bf16⟩
  | .local _ .vmem, ⟨7, _⟩ => ⟨S2560x512, .bf16⟩
  | .local _ .vmem, ⟨8, _⟩ => ⟨S2560x1024, .bf16⟩
  | .local _ .vmem, ⟨9, _⟩ => ⟨S2560x1024, .bf16⟩
  | .local _ .vmem, ⟨10, _⟩ => ⟨S1024x1280, .bf16⟩
  | .local _ .vmem, ⟨11, _⟩ => ⟨S1024x1280, .bf16⟩
  | .local _ .vmem, ⟨12, _⟩ => ⟨S2560x1280, .f32⟩
  | .local _ .vmem, ⟨13, _⟩ => ⟨S2560x1280, .f32⟩
  | .local _ .vmem, ⟨14, _⟩ => ⟨S1280x1024, .fp8e5m2⟩
  | .local _ .vmem, ⟨15, _⟩ => ⟨S1280x1024, .fp8e5m2⟩
  | .local _ .vmem, ⟨16, _⟩ => ⟨S8x1x1280, .f32⟩
  | .local _ .vmem, ⟨17, _⟩ => ⟨S8x1x1280, .f32⟩
  | .local _ .vmem, ⟨18, _⟩ => ⟨S1024x1280, .bf16⟩
  | _, _ => ⟨S4x6144x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 24], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S2560x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2560x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1280x1024 .fp8e5m2 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x1x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4x6144x2560 : Shape := ⟨3, ![4, 6144, 2560]⟩
abbrev S4x6144x5120 : Shape := ⟨3, ![4, 6144, 5120]⟩
abbrev S24576x2560 : Shape := ⟨2, ![24576, 2560]⟩
abbrev S24576x5120 : Shape := ⟨2, ![24576, 5120]⟩
abbrev S2560x5120 : Shape := ⟨2, ![2560, 5120]⟩
abbrev S2560x24576 : Shape := ⟨2, ![2560, 24576]⟩
abbrev S2560x192 : Shape := ⟨2, ![2560, 192]⟩
abbrev S5120x24576 : Shape := ⟨2, ![5120, 24576]⟩
abbrev S5120x192 : Shape := ⟨2, ![5120, 192]⟩
abbrev S192x128x2560 : Shape := ⟨3, ![192, 128, 2560]⟩
abbrev S192x2560 : Shape := ⟨2, ![192, 2560]⟩
abbrev S192x1x2560 : Shape := ⟨3, ![192, 1, 2560]⟩
abbrev S192x128x5120 : Shape := ⟨3, ![192, 128, 5120]⟩
abbrev S192x5120 : Shape := ⟨2, ![192, 5120]⟩
abbrev S192x1x5120 : Shape := ⟨3, ![192, 1, 5120]⟩
abbrev S2560x192x1 : Shape := ⟨3, ![2560, 192, 1]⟩
abbrev S2560x192x128 : Shape := ⟨3, ![2560, 192, 128]⟩
abbrev S5120x192x1 : Shape := ⟨3, ![5120, 192, 1]⟩
abbrev S5120x192x128 : Shape := ⟨3, ![5120, 192, 128]⟩

abbrev nBuf : Space → Nat
  | .hbm => 9
  | .vmem => 7
  | .smem => 0
  | _ => 0

abbrev bufTy : (tb : Table) → Fin (tcTables nBuf tb) → BufTy
  | .hbm, ⟨0, _⟩ => ⟨S4x6144x2560, .bf16⟩
  | .hbm, ⟨1, _⟩ => ⟨S4x6144x5120, .bf16⟩
  | .hbm, ⟨2, _⟩ => ⟨S24576x2560, .bf16⟩
  | .hbm, ⟨3, _⟩ => ⟨S24576x5120, .bf16⟩
  | .hbm, ⟨4, _⟩ => ⟨S2560x5120, .f32⟩
  | .hbm, ⟨5, _⟩ => ⟨S2560x24576, .fp8e4m3⟩
  | .hbm, ⟨6, _⟩ => ⟨S2560x192, .f32⟩
  | .hbm, ⟨7, _⟩ => ⟨S5120x24576, .fp8e5m2⟩
  | .hbm, ⟨8, _⟩ => ⟨S5120x192, .f32⟩
  | .local _ .vmem, ⟨0, _⟩ => ⟨S24576x2560, .bf16⟩
  | .local _ .vmem, ⟨1, _⟩ => ⟨S24576x5120, .bf16⟩
  | .local _ .vmem, ⟨2, _⟩ => ⟨S2560x5120, .f32⟩
  | .local _ .vmem, ⟨3, _⟩ => ⟨S2560x24576, .fp8e4m3⟩
  | .local _ .vmem, ⟨4, _⟩ => ⟨S2560x192, .f32⟩
  | .local _ .vmem, ⟨5, _⟩ => ⟨S5120x24576, .fp8e5m2⟩
  | .local _ .vmem, ⟨6, _⟩ => ⟨S5120x192, .f32⟩
  | _, _ => ⟨S4x6144x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S24576x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x24576 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x24576 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Quant.lean ====
/- The scale of one block of 128 values, on the extended reals: the kernel's way to it (a search for the exponent field, and
   powers of two assembled from their bits) and the reference's (a logarithm, its floor, and powers of two), and that both
   give the same scale and the same inverse scale for every ratio from zero up to 2 ^ 126. -/
module

public import Idealize.ShloMosaic.Lib.Pointwise

@[expose] public section

set_option maxRecDepth 16384

noncomputable section

namespace Cert.Quant

open Idealize.ShloMosaic

/-! ## The kernel's way -/

/-- One step of the search: set the bit `p` of `b` unless that makes a number above `r`. -/
def step (r : EReal) (b p : BitVec 32) : BitVec 32 :=
  Scalar.select (Ideal.cmp .olt r (Ideal.ofBits .f32 (IntOp.ori b p))) b (IntOp.ori b p)

/-- The eight steps of the search, from bit 30 down to bit 23. -/
def search (r : EReal) : BitVec 32 :=
  step r (step r (step r (step r (step r (step r (step r (step r 0#32 1073741824#32) 536870912#32) 268435456#32) 134217728#32)
    67108864#32) 33554432#32) 16777216#32) 8388608#32

/-- The exponent field of `r`, with 126 in the place of zero. -/
def field (r : EReal) : BitVec 32 :=
  Scalar.select (IntOp.cmpi .eq (IntOp.shrsi .vector (search r) 23#32) 0#32) 126#32 (IntOp.shrsi .vector (search r) 23#32)

/-- The kernel's scale. -/
def scale (r : EReal) : EReal := Ideal.ofBits .f32 (IntOp.shli .vector (IntOp.addi (field r) 1#32) 23#32)

/-- The kernel's inverse scale. -/
def inv (r : EReal) : EReal := Ideal.ofBits .f32 (IntOp.shli .vector (IntOp.subi 253#32 (field r)) 23#32)

/-! ## The reference's way -/

/-- The reference's exponent. -/
def rexp (r : EReal) : EReal :=
  if r < Ideal.ofBits .f32 0x00800000#32 then Ideal.ofBits .f32 0x00000000#32
  else Ideal.liftRound Int.floor (Ideal.div (Ideal.log r) ((Real.log 2 : ℝ) : EReal)) + Ideal.ofBits .f32 0x3F800000#32

/-- The reference's scale. -/
def rscale (r : EReal) : EReal := Ideal.exp2 (rexp r)

/-- The reference's inverse scale. -/
def rinv (r : EReal) : EReal := Ideal.exp2 (Ideal.ofBits .f32 0x00000000#32 - rexp r)

/-! ## Words with a zero significand -/

/-- The word of exponent field `n` and significand zero. -/
def word (n : Nat) : BitVec 32 := BitVec.ofNat 32 (n * 2 ^ 23)

/-- The number such a word denotes. -/
def val (n : Nat) : EReal := Ideal.ofBits .f32 (word n)

theorem word_fields (n : Fin 256) : (word n.val).extractLsb' 23 8 = BitVec.ofNat 8 n.val
    ∧ (word n.val).extractLsb' 0 23 = 0#23 ∧ (word n.val).extractLsb' 31 1 = 0#1 := by
  revert n; decide +kernel

theorem val_of (n : Nat) (h1 : 1 ≤ n) (h2 : n < 255) : val n = (((2 : ℝ) ^ ((n : Int) - 127) : ℝ) : EReal) := by
  obtain ⟨e1, e2, e3⟩ := word_fields ⟨n, by omega⟩
  have e4 : (BitVec.ofNat 8 n).toNat = n := by simp only [BitVec.toNat_ofNat]; omega
  unfold val
  simp only [Ideal.ofBits, Ideal.ieee, Nat.reduceAdd] at e1 e2 e3 ⊢
  rw [e1, e2, e3, e4]
  rw [if_neg (by omega), if_neg (by omega)]
  congr 1
  simp only [BitVec.toNat_zero]
  have : ((2 : ℝ) ^ ((n : Int) - 127 - 23)) = (2 : ℝ) ^ ((n : Int) - 127) * (2 : ℝ) ^ (-23 : Int) := by
    rw [← zpow_add₀ (by norm_num)]; congr 1
  norm_num
  rw [this]
  norm_num
  ring

theorem val_zero : val 0 = 0 := by
  simp [val, word, Ideal.ofBits, Ideal.ieee]

theorem word_or (k : Fin 8) (n : Fin 256) (h : 2 ^ (k.val + 1) ∣ n.val) :
    IntOp.ori (word n.val) (word (2 ^ k.val)) = word (n.val + 2 ^ k.val) := by
  revert k n; decide +kernel

theorem step_eq (r : EReal) (b p : BitVec 32) :
    step r b p = if r < Ideal.ofBits .f32 (IntOp.ori b p) then b else IntOp.ori b p := by
  unfold step Scalar.select
  by_cases h : r < Ideal.ofBits .f32 (IntOp.ori b p)
  · have : Ideal.cmp .olt r (Ideal.ofBits .f32 (IntOp.ori b p)) = 1#1 := by simp [Ideal.cmp, h]
    rw [this, if_pos h]; rfl
  · have : Ideal.cmp .olt r (Ideal.ofBits .f32 (IntOp.ori b p)) = 0#1 := by simp [Ideal.cmp, h]
    rw [this, if_neg h]; rfl

/-- One step keeps the invariant: the word found so far is at most `r`, and the next one at this resolution is above it. -/
theorem step_spec (r : EReal) (k n : Nat) (hk : k < 8) (hn : n < 256) (hd : 2 ^ (k + 1) ∣ n) (hlo : val n ≤ r)
    (hhi : n + 2 ^ (k + 1) < 256 → r < val (n + 2 ^ (k + 1))) :
    ∃ n', n' < 256 ∧ step r (word n) (word (2 ^ k)) = word n' ∧ 2 ^ k ∣ n' ∧ val n' ≤ r ∧
      (n' + 2 ^ k < 256 → r < val (n' + 2 ^ k)) := by
  have hor := word_or ⟨k, hk⟩ ⟨n, hn⟩ hd
  simp only at hor
  have hp : 2 ^ (k + 1) = 2 ^ k + 2 ^ k := by ring
  have hlt : n + 2 ^ k < 256 := by
    obtain ⟨q, rfl⟩ := hd
    have h8 : 2 ^ (k + 1) * 2 ^ (8 - (k + 1)) = 256 := by rw [← pow_add]; norm_num [show k + 1 + (8 - (k + 1)) = 8 by omega]
    have hq : q < 2 ^ (8 - (k + 1)) := by
      by_contra hq
      have := Nat.mul_le_mul_left (2 ^ (k + 1)) (not_lt.1 hq)
      omega
    have := Nat.mul_le_mul_left (2 ^ (k + 1)) (Nat.succ_le_of_lt hq)
    rw [Nat.mul_succ] at this
    have := Nat.two_pow_pos k
    omega
  have hdk : 2 ^ k ∣ n := (pow_dvd_pow 2 (Nat.le_succ k)).trans hd
  rw [step_eq, hor]
  change ∃ n', n' < 256 ∧ (if r < val (n + 2 ^ k) then word n else word (n + 2 ^ k)) = word n' ∧ _
  by_cases h : r < val (n + 2 ^ k)
  · exact ⟨n, hn, if_pos h, hdk, hlo, fun _ => h⟩
  · refine ⟨n + 2 ^ k, hlt, if_neg h, (Nat.dvd_add hdk (dvd_refl _)), not_lt.1 h, fun h' => ?_⟩
    rw [Nat.add_assoc, ← hp] at h' ⊢; exact hhi h'

/-- The search finds the exponent field of `r`. -/
theorem search_spec (r : EReal) (h0 : 0 ≤ r) :
    ∃ n, n < 256 ∧ search r = word n ∧ val n ≤ r ∧ (n + 1 < 256 → r < val (n + 1)) := by
  obtain ⟨n7, l7, e7, d7, a7, b7⟩ := step_spec r 7 0 (by omega) (by omega) (by omega) (by rw [val_zero]; exact h0) (by omega)
  obtain ⟨n6, l6, e6, d6, a6, b6⟩ := step_spec r 6 n7 (by omega) l7 d7 a7 b7
  obtain ⟨n5, l5, e5, d5, a5, b5⟩ := step_spec r 5 n6 (by omega) l6 d6 a6 b6
  obtain ⟨n4, l4, e4, d4, a4, b4⟩ := step_spec r 4 n5 (by omega) l5 d5 a5 b5
  obtain ⟨n3, l3, e3, d3, a3, b3⟩ := step_spec r 3 n4 (by omega) l4 d4 a4 b4
  obtain ⟨n2, l2, e2, d2, a2, b2⟩ := step_spec r 2 n3 (by omega) l3 d3 a3 b3
  obtain ⟨n1, l1, e1, d1, a1, b1⟩ := step_spec r 1 n2 (by omega) l2 d2 a2 b2
  obtain ⟨n0, l0, e0, d0, a0, b0⟩ := step_spec r 0 n1 (by omega) l1 d1 a1 b1
  refine ⟨n0, l0, ?_, a0, b0⟩
  rw [← e0, ← e1, ← e2, ← e3, ← e4, ← e5, ← e6, ← e7]
  rfl

theorem field_word (n : Fin 253) (m : Nat) (hm : m = if n.val = 0 then 126 else n.val) :
    let f := Scalar.select (IntOp.cmpi .eq (IntOp.shrsi .vector (word n.val) 23#32) 0#32) 126#32 (IntOp.shrsi .vector (word n.val) 23#32)
    IntOp.shli .vector (IntOp.addi f 1#32) 23#32 = word (m + 1) ∧ IntOp.shli .vector (IntOp.subi 253#32 f) 23#32 = word (253 - m) := by
  subst hm; revert n; decide +kernel

theorem exp2_int (e : Int) : Ideal.exp2 (((e : ℝ) : ℝ) : EReal) = (((2 : ℝ) ^ e : ℝ) : EReal) := by
  show ((Real.rpow 2 (e : ℝ) : ℝ) : EReal) = _
  congr 1
  exact Real.rpow_intCast 2 e

theorem bits_zero : Ideal.ofBits .f32 0x00000000#32 = ((0 : ℝ) : EReal) := by
  simp [Ideal.ofBits, Ideal.ieee]

theorem bits_one : Ideal.ofBits .f32 0x3F800000#32 = ((1 : ℝ) : EReal) := by
  have := val_of 127 (by omega) (by omega)
  simpa [val, word] using this

/-- The reference's exponent where the field is `n`. -/
theorem rexp_eq (r : EReal) (n : Nat) (hn : n < 253) (hlo : val n ≤ r) (hhi : r < val (n + 1)) :
    rexp r = ((((if n = 0 then 126 else n : Nat) : Int) - 126 : Int) : ℝ) := by
  have h1 : Ideal.ofBits .f32 0x00800000#32 = val 1 := rfl
  unfold rexp
  rw [h1, bits_zero, bits_one]
  by_cases h : n = 0
  · subst h
    rw [if_pos hhi]; norm_num
  · have hv1 := val_of 1 (by omega) (by omega)
    have hvn := val_of n (by omega) (by omega)
    have hvs := val_of (n + 1) (by omega) (by omega)
    have h1n : val 1 ≤ val n := by
      rw [hv1, hvn, EReal.coe_le_coe_iff]
      exact zpow_le_zpow_right₀ (by norm_num) (by omega)
    rw [if_neg (not_lt.2 (h1n.trans hlo)), if_neg h]
    rw [hvn] at hlo; rw [hvs] at hhi
    induction r using EReal.rec with
    | bot => simp at hlo
    | top => simp at hhi
    | coe x =>
      rw [EReal.coe_le_coe_iff] at hlo
      rw [EReal.coe_lt_coe_iff] at hhi
      have hx : 0 < x := lt_of_lt_of_le (by positivity) hlo
      have hl : Ideal.log (x : EReal) = ((Real.log x : ℝ) : EReal) := by
        show (if x ≤ 0 then (⊥ : EReal) else _) = _
        rw [if_neg (not_le.2 hx)]
      have hl2 : 0 < Real.log 2 := Real.log_pos (by norm_num)
      have hd : Ideal.div ((Real.log x : ℝ) : EReal) ((Real.log 2 : ℝ) : EReal) = ((Real.log x / Real.log 2 : ℝ) : EReal) := by
        unfold Ideal.div
        rw [if_neg (by simpa using hl2.ne'), div_eq_mul_inv, EReal.coe_mul, EReal.coe_inv]
      rw [hl, hd]
      have hf : ⌊Real.log x / Real.log 2⌋ = (n : Int) - 127 := by
        rw [Int.floor_eq_iff]
        constructor
        · rw [le_div_iff₀ hl2, ← Real.log_zpow]
          exact Real.log_le_log (by positivity) hlo
        · rw [div_lt_iff₀ hl2]
          have : (((n : Int) - 127 : Int) : ℝ) + 1 = ((((n + 1 : Nat) : Int) - 127 : Int) : ℝ) := by push_cast; ring
          rw [this, ← Real.log_zpow]
          exact Real.log_lt_log hx hhi
      show (((⌊Real.log x / Real.log 2⌋ : Int) : ℝ) : EReal) + _ = _
      rw [hf, ← EReal.coe_add]
      congr 1; push_cast; ring

/-- Both ways give one scale and one inverse scale, for a ratio from zero up to `2 ^ 126`. -/
theorem scale_inv_eq (r : EReal) (h0 : 0 ≤ r) (h1 : r < val 253) : scale r = rscale r ∧ inv r = rinv r := by
  obtain ⟨n, hn, hs, hlo, hhi⟩ := search_spec r h0
  have hn' : n < 253 := by
    by_contra hc
    have h253 := val_of 253 (by omega) (by omega)
    have : val 253 ≤ val n := by
      by_cases h255 : n = 255
      · subst h255
        have : val 255 = ⊤ := by simp [val, word, Ideal.ofBits, Ideal.ieee]
        rw [this]; exact le_top
      · rw [h253, val_of n (by omega) (by omega), EReal.coe_le_coe_iff]
        exact zpow_le_zpow_right₀ (by norm_num) (by omega)
    exact absurd (this.trans hlo) (not_le.2 h1)
  have hr := rexp_eq r n hn' hlo (hhi (by omega))
  obtain ⟨m, hm⟩ : ∃ m, m = if n = 0 then 126 else n := ⟨_, rfl⟩
  have hm1 : 1 ≤ m := by rw [hm]; split <;> omega
  have hm2 : m < 253 := by rw [hm]; split <;> omega
  obtain ⟨f1, f2⟩ := field_word ⟨n, hn'⟩ m hm
  unfold scale inv rscale rinv field
  simp only at f1 f2
  rw [hs, f1, f2, hr, ← hm, bits_zero, ← EReal.coe_sub]
  have hneg : (0 : ℝ) - (((m : Int) - 126 : Int) : ℝ) = ((126 - (m : Int) : Int) : ℝ) := by push_cast; ring
  rw [hneg, exp2_int, exp2_int]
  constructor
  · refine (val_of (m + 1) (by omega) (by omega)).trans ?_
    congr 2; push_cast; ring
  · refine (val_of (253 - m) (by omega) (by omega)).trans ?_
    congr 2; omega

/-! ## The ratio of a block -/

/-- The greatest magnitude of 128 values. -/
def amax (col : Fin 128 → EReal) : EReal := Finset.univ.sup fun t => max (col t) (-col t)

/-- The maximum taken from minus infinity up is the greatest magnitude. -/
theorem fold_amax (col : Fin 128 → EReal) :
    Finset.fold max (Ideal.ofBits .f32 0xFF800000#32) (fun t => FloatOps.absf (F := Ideal) (φ := .f32) (col t)) Finset.univ = amax col := by
  have : Ideal.ofBits .f32 0xFF800000#32 = ⊥ := by simp [Ideal.ofBits, Ideal.ieee]
  rw [this]; rfl

/-- The greatest magnitude taken as the kernel does: eight strips of 16, their maximum strip by strip, then over the 16. -/
theorem fold_strips (col : Fin 128 → EReal) :
    Finset.fold max (Ideal.ofBits .f32 0xFF800000#32) (fun x : Fin 16 =>
      max (max (max (max (max (max (max (FloatOps.absf (F := Ideal) (φ := .bf16) (col ⟨x.val, by omega⟩)) (FloatOps.absf (F := Ideal) (φ := .bf16) (col ⟨16 + x.val, by omega⟩)))
        (FloatOps.absf (F := Ideal) (φ := .bf16) (col ⟨32 + x.val, by omega⟩))) (FloatOps.absf (F := Ideal) (φ := .bf16) (col ⟨48 + x.val, by omega⟩)))
        (FloatOps.absf (F := Ideal) (φ := .bf16) (col ⟨64 + x.val, by omega⟩))) (FloatOps.absf (F := Ideal) (φ := .bf16) (col ⟨80 + x.val, by omega⟩)))
        (FloatOps.absf (F := Ideal) (φ := .bf16) (col ⟨96 + x.val, by omega⟩))) (FloatOps.absf (F := Ideal) (φ := .bf16) (col ⟨112 + x.val, by omega⟩))) Finset.univ
      = amax col := by
  have h0 : Ideal.ofBits .f32 0xFF800000#32 = ⊥ := by simp [Ideal.ofBits, Ideal.ieee]
  rw [h0]
  have hle : ∀ t, FloatOps.absf (F := Ideal) (φ := .bf16) (col t) ≤ amax col := fun t =>
    Finset.le_sup (f := fun t => max (col t) (-col t)) (Finset.mem_univ t)
  refine le_antisymm (Finset.sup_le fun x _ => ?_) (Finset.sup_le fun t _ => ?_)
  · simp only [max_le_iff, hle, and_self]
  · refine Finset.le_sup_of_le (Finset.mem_univ (⟨t.val % 16, by omega⟩ : Fin 16)) ?_
    change FloatOps.absf (F := Ideal) (φ := .bf16) (col t) ≤ _
    have ht := t.isLt
    rcases (by omega : t.val = t.val % 16 ∨ t.val = 16 + t.val % 16 ∨ t.val = 32 + t.val % 16 ∨ t.val = 48 + t.val % 16
      ∨ t.val = 64 + t.val % 16 ∨ t.val = 80 + t.val % 16 ∨ t.val = 96 + t.val % 16 ∨ t.val = 112 + t.val % 16) with h | h | h | h | h | h | h | h <;>
    · rw [congrArg col (Fin.ext h : t = ⟨_, by omega⟩)]
      simp only [le_max_iff, le_refl, true_or, or_true]

/-- The ratio is from zero up to `2 ^ 126`, where the values are at most `2 ^ 128` in magnitude and the factor at most
    `2 ^ (-8)`. -/
theorem ratio_bounds (col : Fin 128 → EReal) (c : ℝ) (hc0 : 0 ≤ c) (hc1 : c ≤ 1 / 256)
    (h : ∀ t, max (col t) (-col t) ≤ (((2 : ℝ) ^ 128 : ℝ) : EReal)) :
    0 ≤ amax col * (c : EReal) ∧ amax col * (c : EReal) < val 253 := by
  have hpos : ∀ x : EReal, 0 ≤ max x (-x) := by
    intro x
    rcases le_total 0 x with hx | hx
    · exact le_max_of_le_left hx
    · exact le_max_of_le_right (by simpa using hx)
  have h0 : 0 ≤ amax col := (hpos (col 0)).trans (Finset.le_sup (f := fun t => max (col t) (-col t)) (Finset.mem_univ 0))
  have h1 : amax col ≤ (((2 : ℝ) ^ 128 : ℝ) : EReal) := Finset.sup_le fun t _ => h t
  generalize amax col = a at h0 h1 ⊢
  rw [val_of 253 (by omega) (by omega)]
  induction a using EReal.rec with
  | bot => simp at h0
  | top => exact absurd h1 (not_le.2 (EReal.coe_lt_top _))
  | coe x =>
    rw [EReal.coe_le_coe_iff] at h1
    rw [← EReal.coe_zero, EReal.coe_le_coe_iff] at h0
    rw [← EReal.coe_mul, ← EReal.coe_zero, EReal.coe_le_coe_iff, EReal.coe_lt_coe_iff]
    refine ⟨mul_nonneg h0 hc0, ?_⟩
    calc x * c ≤ 2 ^ 128 * (1 / 256) := mul_le_mul h1 hc1 hc0 (by positivity)
      _ < _ := by norm_num

/-! ## The three results of one operand, as arrays -/

variable {C : Nat}

/-- The ratio of block `k` of channel `j`: the greatest magnitude of its 128 tokens, times `c`. -/
def ratio (c : EReal) (v : (⟨2, ![24576, C]⟩ : Shape).Idx → EReal) (k : Fin 192) (j : Fin C) : EReal :=
  amax (fun t => v (ix2 ⟨k.val * 128 + t.val, by omega⟩ j)) * c

/-- The scale of block `k` of channel `j`. -/
def scaleAt (c : EReal) (v : (⟨2, ![24576, C]⟩ : Shape).Idx → EReal) (k : Fin 192) (j : Fin C) : EReal := rscale (ratio c v k j)

/-- The code of token `t` of channel `j`: the value times the inverse scale, clipped to `lo` and `hi`. -/
def codeAt (c lo hi : EReal) (v : (⟨2, ![24576, C]⟩ : Shape).Idx → EReal) (t : Fin 24576) (j : Fin C) : EReal :=
  min hi (max lo (v (ix2 t j) * rinv (ratio c v ⟨t.val / 128, by omega⟩ j)))

/-- The dequantised value: the code times the scale of its block. -/
def deqAt (c lo hi : EReal) (v : (⟨2, ![24576, C]⟩ : Shape).Idx → EReal) (t : Fin 24576) (j : Fin C) : EReal :=
  codeAt c lo hi v t j * scaleAt c v ⟨t.val / 128, by omega⟩ j

/-- `1 / 448` as an f32, and the bounds of the first operand's codes. -/
def cX : EReal := Ideal.ofBits .f32 0x3B124925#32
def loX : EReal := Ideal.ofBits .f32 0xC3E00000#32
def hiX : EReal := Ideal.ofBits .f32 0x43E00000#32
/-- `1 / 57344` as an f32, and the bounds of the second operand's codes. -/
def cY : EReal := Ideal.ofBits .f32 0x37924925#32
def loY : EReal := Ideal.ofBits .f32 0xC7600000#32
def hiY : EReal := Ideal.ofBits .f32 0x47600000#32

/-- The product, over all tokens. -/
def dwAt (x : (⟨2, ![24576, 2560]⟩ : Shape).Idx → EReal) (y : (⟨2, ![24576, 5120]⟩ : Shape).Idx → EReal) (i : Fin 2560) (j : Fin 5120) : EReal :=
  ∑ t : Fin 24576, deqAt cX loX hiX x t i * deqAt cY loY hiY y t j

theorem cX_bounds : ∃ c : ℝ, cX = (c : EReal) ∧ 0 ≤ c ∧ c ≤ 1 / 256 := by
  refine ⟨_, rfl, ?_, ?_⟩ <;> simp [Ideal.ieee] <;> norm_num

theorem cY_bounds : ∃ c : ℝ, cY = (c : EReal) ∧ 0 ≤ c ∧ c ≤ 1 / 256 := by
  refine ⟨_, rfl, ?_, ?_⟩ <;> simp [Ideal.ieee] <;> norm_num

/-- Where all values are at most `2 ^ 128` in magnitude, the kernel's scale and inverse scale of a block are the reference's. -/
theorem scale_inv_ratio (c : EReal) (hc : ∃ r : ℝ, c = (r : EReal) ∧ 0 ≤ r ∧ r ≤ 1 / 256) (v : (⟨2, ![24576, C]⟩ : Shape).Idx → EReal)
    (hv : ∀ i, max (v i) (-v i) ≤ (((2 : ℝ) ^ 128 : ℝ) : EReal)) (k : Fin 192) (j : Fin C) :
    scale (ratio c v k j) = rscale (ratio c v k j) ∧ inv (ratio c v k j) = rinv (ratio c v k j) := by
  obtain ⟨r, rfl, h0, h1⟩ := hc
  obtain ⟨b0, b1⟩ := ratio_bounds (fun t => v (ix2 ⟨k.val * 128 + t.val, by omega⟩ j)) r h0 h1 fun t => hv _
  exact scale_inv_eq _ b0 b1

/-! ## The same with the kernel's scale and inverse scale -/

/-- The kernel's scale of block `k` of channel `j`. -/
def scaleK (c : EReal) (v : (⟨2, ![24576, C]⟩ : Shape).Idx → EReal) (k : Fin 192) (j : Fin C) : EReal := scale (ratio c v k j)

/-- The kernel's code of token `t` of channel `j`. -/
def codeK (c lo hi : EReal) (v : (⟨2, ![24576, C]⟩ : Shape).Idx → EReal) (t : Fin 24576) (j : Fin C) : EReal :=
  min hi (max lo (v (ix2 t j) * inv (ratio c v ⟨t.val / 128, by omega⟩ j)))

/-- The kernel's dequantised value. -/
def deqK (c lo hi : EReal) (v : (⟨2, ![24576, C]⟩ : Shape).Idx → EReal) (t : Fin 24576) (j : Fin C) : EReal :=
  codeK c lo hi v t j * scaleK c v ⟨t.val / 128, by omega⟩ j

/-- The sum of products of the kernel's dequantised values, over all tokens. -/
def dwK (x : (⟨2, ![24576, 2560]⟩ : Shape).Idx → EReal) (y : (⟨2, ![24576, 5120]⟩ : Shape).Idx → EReal) (i : Fin 2560) (j : Fin 5120) : EReal :=
  ∑ t : Fin 24576, deqK cX loX hiX x t i * deqK cY loY hiY y t j

section
variable (c lo hi : EReal) (hc : ∃ r : ℝ, c = (r : EReal) ∧ 0 ≤ r ∧ r ≤ 1 / 256) (v : (⟨2, ![24576, C]⟩ : Shape).Idx → EReal)
  (hv : ∀ i, max (v i) (-v i) ≤ (((2 : ℝ) ^ 128 : ℝ) : EReal))
include hc hv

/-- Where all values are at most `2 ^ 128` in magnitude, the kernel's scales are the reference's. -/
theorem scaleK_eq (k : Fin 192) (j : Fin C) : scaleK c v k j = scaleAt c v k j := (scale_inv_ratio c hc v hv k j).1

/-- There the kernel's codes are the reference's. -/
theorem codeK_eq (t : Fin 24576) (j : Fin C) : codeK c lo hi v t j = codeAt c lo hi v t j := by
  unfold codeK codeAt; rw [(scale_inv_ratio c hc v hv _ j).2]

/-- There the kernel's dequantised values are the reference's. -/
theorem deqK_eq (t : Fin 24576) (j : Fin C) : deqK c lo hi v t j = deqAt c lo hi v t j := by
  unfold deqK deqAt; rw [codeK_eq c lo hi hc v hv, scaleK_eq c hc v hv]
end

/-- Where all values of both operands are at most `2 ^ 128` in magnitude, the products are the same. -/
theorem dwK_eq (x : (⟨2, ![24576, 2560]⟩ : Shape).Idx → EReal) (y : (⟨2, ![24576, 5120]⟩ : Shape).Idx → EReal)
    (hx : ∀ i, max (x i) (-x i) ≤ (((2 : ℝ) ^ 128 : ℝ) : EReal)) (hy : ∀ i, max (y i) (-y i) ≤ (((2 : ℝ) ^ 128 : ℝ) : EReal))
    (i : Fin 2560) (j : Fin 5120) : dwK x y i j = dwAt x y i j :=
  Finset.sum_congr rfl fun t _ => by rw [deqK_eq cX loX hiX cX_bounds x hx, deqK_eq cY loY hiY cY_bounds y hy]

/-! ## Pieces: 128 tokens of some channels -/

/-- A piece's ratio is the ratio of its block, where the piece holds the block's tokens at the channel. -/
theorem ratio_piece (c : EReal) (x : (⟨2, ![24576, C]⟩ : Shape).Idx → EReal) (k : Fin 192) (j : Fin C) (col : Fin 128 → EReal)
    (h : ∀ t : Fin 128, col t = x (ix2 ⟨k.val * 128 + t.val, by omega⟩ j)) : amax col * c = ratio c x k j := by
  unfold ratio; rw [funext h]

/-- A piece's code is the code of its token. -/
theorem code_piece (c lo hi : EReal) (x : (⟨2, ![24576, C]⟩ : Shape).Idx → EReal) (k : Fin 192) (j : Fin C) (T : Fin 24576)
    (hT : T.val / 128 = k.val) : min hi (max lo (x (ix2 T j) * inv (ratio c x k j))) = codeK c lo hi x T j := by
  have hk : (⟨T.val / 128, by omega⟩ : Fin 192) = k := Fin.ext hT
  unfold codeK; rw [hk]

/-- A piece's dequantised value is that of its token. -/
theorem deq_piece (c lo hi : EReal) (x : (⟨2, ![24576, C]⟩ : Shape).Idx → EReal) (k : Fin 192) (j : Fin C) (T : Fin 24576)
    (hT : T.val / 128 = k.val) : codeK c lo hi x T j * scaleK c x k j = deqK c lo hi x T j := by
  have hk : (⟨T.val / 128, by omega⟩ : Fin 192) = k := Fin.ext hT
  unfold deqK; rw [hk]

end Cert.Quant

end
-- ==== Proof.Bounds.lean ====
/- The precondition at an entry: every value of either argument is at most 2 ^ 128 in magnitude. -/
module

public import proofs.«01_k».proof.Pre_finite
public import proofs.«01_k».proof.Proof.Quant
public import Idealize.ShloMosaic.Lib.Claim

@[expose] public section

set_option maxRecDepth 16384

noncomputable section

namespace Cert.Pre_finite

open Idealize.ShloMosaic Idealize.ShloMosaic.Tactic

/-- The side conditions of the precondition's operations. -/
theorem facts : Facts := ⟨by decide, by decide⟩

/-- The largest finite bfloat16 is at most `2 ^ 128`. -/
theorem largest_le : Ideal.ieee 8 7 0x7F7F#16 ≤ (((2 : ℝ) ^ 128 : ℝ) : EReal) := by
  have h : Ideal.ieee 8 7 0x7F7F#16 = ((255 * 2 ^ 120 : ℝ) : EReal) := by
    simp [Ideal.ieee]
  rw [h, EReal.coe_le_coe_iff]
  norm_num

attribute [local instance] facts

/-- Where the precondition holds of the first argument, its entries are bounded. -/
theorem bound_x (x : FVec Ideal S4x6144x2560 .bf16) (y : FVec Ideal S4x6144x5120 .bf16) (h : (fn (F := Ideal) x y).1 = fun _ => 1#1)
    (i : S4x6144x2560.Idx) : max (x i : EReal) (-(x i : EReal)) ≤ (((2 : ℝ) ^ 128 : ℝ) : EReal) := by
  have h1 : BitVec.ofBool (decide (max (x i : EReal) (-(x i : EReal)) ≤ Ideal.ieee 8 7 0x7F7F#16)) = 1#1 := congrFun h i
  refine le_trans ?_ largest_le
  by_contra hn
  simp [hn] at h1

/-- Where the precondition holds of the second argument, its entries are bounded. -/
theorem bound_y (x : FVec Ideal S4x6144x2560 .bf16) (y : FVec Ideal S4x6144x5120 .bf16) (h : (fn (F := Ideal) x y).2 = fun _ => 1#1)
    (i : S4x6144x5120.Idx) : max (y i : EReal) (-(y i : EReal)) ≤ (((2 : ℝ) ^ 128 : ℝ) : EReal) := by
  have h1 : BitVec.ofBool (decide (max (y i : EReal) (-(y i : EReal)) ≤ Ideal.ieee 8 7 0x7F7F#16)) = 1#1 := congrFun h i
  refine le_trans ?_ largest_le
  by_contra hn
  simp [hn] at h1

end Cert.Pre_finite

end
-- ==== Proof.XBlock.lean ====
/- What one point of the first region leaves in its three output blocks: the twenty stores of each block, written as one
   list over the pieces' numbers. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic Cert.KernelIdeal Cert.KernelIdeal.Gen

variable {F : FTy → Type} [FloatOps F]

/-- The scales of one 128 x 512 piece of `x`, a row of 512. -/
def scaleX (v : Vec F S128x512 .bf16) : FVec F S1x512 .f32 :=
  k0_pay7 (k0_pay2 v) (k0_pay3 v) (k0_pay4 v) (k0_pay5 v)

/-- The codes of one 128 x 512 piece of `x`, token by channel. -/
def codeX (v : Vec F S128x512 .bf16) : FVec F S128x512 .fp8e4m3 :=
  k0_pay8 (k0_pay1 v) (k0_pay2 v) (k0_pay3 v) (k0_pay4 v) (k0_pay5 v)

theorem inbLoadX (i : Fin 20) : ∀ a : Fin 2, (![128 * (i.val % 4), 512 * (i.val / 4)] : Fin 2 → Nat) a + S128x512.size a ≤ S512x2560.size a := by
  revert i; decide +kernel
theorem inbCodeX (i : Fin 20) : ∀ a : Fin 2, (![512 * (i.val / 4), 128 * (i.val % 4)] : Fin 2 → Nat) a + S512x128.size a ≤ S2560x512.size a := by
  revert i; decide +kernel
theorem inbScaleX (i : Fin 20) : ∀ a : Fin 3, (![i.val % 4, 0, 512 * (i.val / 4)] : Fin 3 → Nat) a + S1x1x512.size a ≤ S4x1x2560.size a := by
  revert i; decide +kernel

/-- Piece `i` of a 512 x 2560 block of `x`. -/
def pieceX (x : Vec F S512x2560 .bf16) (i : Fin 20) : Vec F S128x512 .bf16 :=
  View.ld x (Rect.unit (s := S512x2560) ![128 * (i.val % 4), 512 * (i.val / 4)] S128x512.size (inbLoadX i))

/-- The block of codes is the pieces' codes, each transposed to its place. -/
theorem out0_1_eq (x : Vec F S512x2560 .bf16) :
    out0_1 x = View.canon ((List.finRange 20).reverse.map fun i =>
      ⟨Rect.unit (s := S2560x512) ![512 * (i.val / 4), 128 * (i.val % 4)] S512x128.size (inbCodeX i), k0_pay12 (codeX (pieceX x i))⟩) := by
  sl_kernel_rfl

/-- The block of scales is the pieces' scales, each at its place. -/
theorem out0_2_eq (x : Vec F S512x2560 .bf16) :
    out0_2 x = View.canon ((List.finRange 20).reverse.map fun i =>
      ⟨Rect.unit (s := S4x1x2560) ![i.val % 4, 0, 512 * (i.val / 4)] S1x1x512.size (inbScaleX i), k0_pay9 (scaleX (pieceX x i))⟩) := by
  sl_kernel_rfl

/-- The block of dequantised values is the pieces' codes times their scales, each transposed to its place. -/
theorem out0_3_eq (x : Vec F S512x2560 .bf16) :
    out0_3 x = View.canon ((List.finRange 20).reverse.map fun i =>
      ⟨Rect.unit (s := S2560x512) ![512 * (i.val / 4), 128 * (i.val % 4)] S512x128.size (inbCodeX i),
        k0_pay11 (scaleX (pieceX x i)) (codeX (pieceX x i))⟩) := by
  sl_kernel_rfl

end Cert.KernelIdeal.Val

end
-- ==== Proof.XPiece.lean ====
/- What one 128 x 512 piece of the first operand becomes: its scales, its codes and its dequantised values, at an index. -/
module

public import proofs.«01_k».proof.Proof.XBlock
public import proofs.«01_k».proof.Proof.Quant
public import Idealize.ShloMosaic.Lib.Pointwise

@[expose] public section

set_option maxRecDepth 16384

noncomputable section

namespace Cert.KernelIdeal.Val

open Idealize.ShloMosaic Idealize.ShloMosaic.TcCoe Idealize.ShloMosaic.Tactic Cert.KernelIdeal Cert.KernelIdeal.Gen Cert.Quant

/-- The scale of a piece's channel. -/
theorem scaleX_apply (v : Vec Ideal S128x512 .bf16) (j : Fin 512) :
    scaleX (F := Ideal) v (ix2 0 j) = scale (k0_pay2 v (ix2 0 j)) := by
  sl_kernel_rfl

/-- The code of a piece's token and channel, before it is transposed. -/
theorem codeX_apply (v : Vec Ideal S128x512 .bf16) (t : Fin 128) (j : Fin 512) :
    codeX (F := Ideal) v (ix2 t j) = min hiX (max loX (v (ix2 t j) * inv (k0_pay2 v (ix2 0 j)))) := by
  have h : ∀ (w : FVec Ideal S128x512 .bf16) a b c d, k0_pay8 (F := Ideal) w a b c d (ix2 t j)
      = min hiX (max loX (w (ix2 t j) * Ideal.ofBits .f32 (IntOp.shli .vector (IntOp.subi 253#32 (k0_pay6 a b c d (ix2 0 j))) 23#32))) := by
    intro w a b c d
    pointwise [k0_pay8]
    rfl
  have h1 : k0_pay1 v = v := by unfold k0_pay1; exact shapeCast_self _ _
  unfold codeX
  have h2 : k0_pay6 (k0_pay2 v) (k0_pay3 v) (k0_pay4 v) (k0_pay5 v) (ix2 0 j) = field (k0_pay2 v (ix2 0 j)) := by
    sl_kernel_rfl
  rw [h, h1, h2]
  rfl

/-- The piece's codes after the transpose. -/
theorem pay12_apply (w : FVec Ideal S128x512 .fp8e4m3) (j : Fin 512) (t : Fin 128) : k0_pay12 w (ix2 j t) = w (ix2 t j) := by
  pointwise [k0_pay12, k0_pay10]

/-- The piece's codes times its scales after the transpose. -/
theorem pay11_apply (s : FVec Ideal S1x512 .f32) (w : FVec Ideal S128x512 .fp8e4m3) (j : Fin 512) (t : Fin 128) :
    k0_pay11 s w (ix2 j t) = w (ix2 t j) * s (ix2 0 j) := by
  pointwise [k0_pay11, k0_pay10]

/-- The piece's row of scales as it is stored. -/
theorem pay9_apply (s : FVec Ideal S1x512 .f32) (j : Fin 512) : k0_pay9 s (ix3 0 0 j) = s (ix2 0 j) := by
  pointwise [k0_pay9]

/-- The ratio of a piece's channel: the greatest magnitude of its 128 tokens, times the constant. -/
theorem pay2_apply (v : Vec Ideal S128x512 .bf16) (j : Fin 512) : k0_pay2 (F := Ideal) v (ix2 0 j) = amax (fun t => v (ix2 t j)) * cX := by
  rw [← fold_strips]
  pointwise [k0_pay2, k0_pay1]
  rfl

end Cert.KernelIdeal.Val

end
-- ==== Proof.XValue.lean ====
/- What one point of the first region leaves in its three output blocks, in terms of the operand's array. -/
module

public import proofs.«01_k».proof.Proof.XPiece
public import Idealize.ShloMosaic.Lib.Pipeline.Value

@[expose] public section

set_option maxRecDepth 16384

noncomputable section

namespace Cert.KernelIdeal.Val

open Idealize.ShloMosaic Idealize.ShloMosaic.TcCoe Idealize.ShloMosaic.Tactic Cert.KernelIdeal Cert.KernelIdeal.Gen Cert.Quant

/-- Piece `i` of a block at an index. -/
theorem pieceX_apply (x : Vec Ideal S512x2560 .bf16) (i : Fin 20) (a : Fin 128) (b : Fin 512) :
    pieceX x i (ix2 a b) = x (ix2 ⟨128 * (i.val % 4) + a.val, by omega⟩ ⟨512 * (i.val / 4) + b.val, by omega⟩) := by
  unfold pieceX
  show x _ = x _
  congr 1
  funext a'
  apply Fin.ext
  match a' with
  | ⟨0, _⟩ => show 128 * (i.val % 4) + 1 * a.val = _; rw [Nat.one_mul]; rfl
  | ⟨1, _⟩ => show 512 * (i.val / 4) + 1 * b.val = _; rw [Nat.one_mul]; rfl

/-- Token `a` of block `t` of 512. -/
abbrev tokX (t : Fin 48) (a : Nat) (ha : a < 512) : Fin 24576 := ⟨512 * t.val + a, by omega⟩

/-- Block `t` of the codes' array: channel by token. -/
def codesXBlk (X : Vec Ideal S24576x2560 .bf16) (t : Fin 48) : Vec Ideal S2560x512 .fp8e4m3 :=
  fun y => codeK cX loX hiX X ⟨512 * t.val + (y 1).val, by have : (y 1).val < 512 := (y 1).isLt; omega⟩ (y 0)

/-- Block `t` of the dequantised values' array: channel by token. -/
def deqXBlk (X : Vec Ideal S24576x2560 .bf16) (t : Fin 48) : Vec Ideal S2560x512 .bf16 :=
  fun y => deqK cX loX hiX X ⟨512 * t.val + (y 1).val, by have : (y 1).val < 512 := (y 1).isLt; omega⟩ (y 0)

/-- Block `t` of the scales' array: four blocks of tokens by channel. -/
def scalesXBlk (X : Vec Ideal S24576x2560 .bf16) (t : Fin 48) : Vec Ideal S4x1x2560 .f32 :=
  fun y => scaleK cX X ⟨4 * t.val + (y 0).val, by have : (y 0).val < 4 := (y 0).isLt; omega⟩ (y 2)

/-- A block of codes at an index is the array's function there. -/
theorem codesXBlk_eq (X : Vec Ideal S24576x2560 .bf16) (t : Fin 48) (y : S2560x512.Idx) (T : Fin 24576) (C : Fin 2560)
    (hT : T.val = 512 * t.val + (y 1).val) (hC : C.val = (y 0).val) : codesXBlk X t y = codeK cX loX hiX X T C := by
  unfold codesXBlk
  congr 1 <;> apply Fin.ext
  · exact hT.symm
  · exact hC.symm

/-- A block of dequantised values at an index is the array's function there. -/
theorem deqXBlk_eq (X : Vec Ideal S24576x2560 .bf16) (t : Fin 48) (y : S2560x512.Idx) (T : Fin 24576) (C : Fin 2560)
    (hT : T.val = 512 * t.val + (y 1).val) (hC : C.val = (y 0).val) : deqXBlk X t y = deqK cX loX hiX X T C := by
  unfold deqXBlk
  congr 1 <;> apply Fin.ext
  · exact hT.symm
  · exact hC.symm

/-- A block of scales at an index is the array's function there. -/
theorem scalesXBlk_eq (X : Vec Ideal S24576x2560 .bf16) (t : Fin 48) (y : S4x1x2560.Idx) (K : Fin 192) (C : Fin 2560)
    (hK : K.val = 4 * t.val + (y 0).val) (hC : C.val = (y 2).val) : scalesXBlk X t y = scaleK cX X K C := by
  unfold scalesXBlk
  congr 1 <;> apply Fin.ext
  · exact hK.symm
  · exact hC.symm

section
variable (X : Vec Ideal S24576x2560 .bf16) (t : Fin 48) (x : Vec Ideal S512x2560 .bf16)
  (hx : ∀ (a : Fin 512) (b : Fin 2560), x (ix2 a b) = X (ix2 (tokX t a.val a.isLt) b))
include hx

/-- The block of tokens that piece `i` of block `t` is. -/
def blockOf (t : Fin 48) (i : Fin 20) : Fin 192 := ⟨4 * t.val + i.val % 4, by omega⟩

/-- The ratio of a piece's channel is that of its block of tokens. -/
theorem piece_ratio (i : Fin 20) (j : Fin 512) :
    k0_pay2 (F := Ideal) (pieceX x i) (ix2 0 j) = ratio cX X (blockOf t i) ⟨512 * (i.val / 4) + j.val, by omega⟩ := by
  rw [pay2_apply]
  refine ratio_piece cX X _ _ _ fun s => ?_
  rw [pieceX_apply, hx]
  congr 2
  apply Fin.ext
  show 512 * t.val + (128 * (i.val % 4) + s.val) = (4 * t.val + i.val % 4) * 128 + s.val
  omega

theorem piece_scale (i : Fin 20) (j : Fin 512) :
    scaleX (F := Ideal) (pieceX x i) (ix2 0 j) = scaleK cX X (blockOf t i) ⟨512 * (i.val / 4) + j.val, by omega⟩ := by
  rw [scaleX_apply, piece_ratio X t x hx]; rfl

theorem piece_code (i : Fin 20) (s : Fin 128) (j : Fin 512) (T : Fin 24576) (hT : T.val = (blockOf t i).val * 128 + s.val) :
    codeX (F := Ideal) (pieceX x i) (ix2 s j) = codeK cX loX hiX X T ⟨512 * (i.val / 4) + j.val, by omega⟩ := by
  rw [codeX_apply, piece_ratio X t x hx, pieceX_apply, hx, ← code_piece cX loX hiX X (blockOf t i) _ T (by rw [hT]; omega)]
  congr 5
  apply Fin.ext
  rw [hT]
  show 512 * t.val + (128 * (i.val % 4) + s.val) = (4 * t.val + i.val % 4) * 128 + s.val
  omega

/-- The block of codes. -/
theorem codes_block : out0_1 (F := Ideal) x = codesXBlk X t := by
  rw [out0_1_eq]
  funext y
  refine View.canon_apply_of_pieces (Val := Elt Ideal) (e := .fp8e4m3) (codesXBlk X t) _ ?_ y ?_
  · intro p hp e
    obtain ⟨i, -, rfl⟩ := List.mem_map.1 hp
    obtain ⟨j, s, rfl⟩ : ∃ (j : Fin 512) (s : Fin 128), e = ix2 j s := ⟨e 0, e 1, by funext a; match a with | ⟨0, _⟩ => rfl | ⟨1, _⟩ => rfl⟩
    show k0_pay12 (codeX (pieceX x i)) (ix2 j s) = _
    rw [pay12_apply, piece_code X t x hx i s j ⟨512 * t.val + (128 * (i.val % 4) + s.val), by omega⟩
      (by show 512 * t.val + (128 * (i.val % 4) + s.val) = (4 * t.val + i.val % 4) * 128 + s.val; omega)]
    congr 1 <;> apply Fin.ext
    · show 512 * t.val + (128 * (i.val % 4) + s.val) = 512 * t.val + (128 * (i.val % 4) + 1 * s.val); omega
    · show 512 * (i.val / 4) + j.val = 512 * (i.val / 4) + 1 * j.val; omega
  · have h0 : (y 0).val < 2560 := (y 0).isLt
    have h1 : (y 1).val < 512 := (y 1).isLt
    refine ⟨_, List.mem_map.2 ⟨⟨4 * ((y 0).val / 512) + (y 1).val / 128, by omega⟩, by simp, rfl⟩, ?_⟩
    rw [Rect.mem_set_unit]
    intro a
    match a with
    | ⟨0, _⟩ => show 512 * ((4 * ((y 0).val / 512) + (y 1).val / 128) / 4) ≤ (y 0).val ∧ (y 0).val < 512 * ((4 * ((y 0).val / 512) + (y 1).val / 128) / 4) + 512; omega
    | ⟨1, _⟩ => show 128 * ((4 * ((y 0).val / 512) + (y 1).val / 128) % 4) ≤ (y 1).val ∧ (y 1).val < 128 * ((4 * ((y 0).val / 512) + (y 1).val / 128) % 4) + 128; omega

/-- The block of dequantised values. -/
theorem deq_block : out0_3 (F := Ideal) x = deqXBlk X t := by
  rw [out0_3_eq]
  funext y
  refine View.canon_apply_of_pieces (Val := Elt Ideal) (e := .bf16) (deqXBlk X t) _ ?_ y ?_
  · intro p hp e
    obtain ⟨i, -, rfl⟩ := List.mem_map.1 hp
    obtain ⟨j, s, rfl⟩ : ∃ (j : Fin 512) (s : Fin 128), e = ix2 j s := ⟨e 0, e 1, by funext a; match a with | ⟨0, _⟩ => rfl | ⟨1, _⟩ => rfl⟩
    show k0_pay11 (scaleX (pieceX x i)) (codeX (pieceX x i)) (ix2 j s) = _
    rw [pay11_apply, piece_scale X t x hx, piece_code X t x hx i s j ⟨512 * t.val + (128 * (i.val % 4) + s.val), by omega⟩
      (by show 512 * t.val + (128 * (i.val % 4) + s.val) = (4 * t.val + i.val % 4) * 128 + s.val; omega),
      deq_piece cX loX hiX X (blockOf t i) _ _ (by show (512 * t.val + (128 * (i.val % 4) + s.val)) / 128 = 4 * t.val + i.val % 4; omega)]
    congr 1 <;> apply Fin.ext
    · show 512 * t.val + (128 * (i.val % 4) + s.val) = 512 * t.val + (128 * (i.val % 4) + 1 * s.val); omega
    · show 512 * (i.val / 4) + j.val = 512 * (i.val / 4) + 1 * j.val; omega
  · have h0 : (y 0).val < 2560 := (y 0).isLt
    have h1 : (y 1).val < 512 := (y 1).isLt
    refine ⟨_, List.mem_map.2 ⟨⟨4 * ((y 0).val / 512) + (y 1).val / 128, by omega⟩, by simp, rfl⟩, ?_⟩
    rw [Rect.mem_set_unit]
    intro a
    match a with
    | ⟨0, _⟩ => show 512 * ((4 * ((y 0).val / 512) + (y 1).val / 128) / 4) ≤ (y 0).val ∧ (y 0).val < 512 * ((4 * ((y 0).val / 512) + (y 1).val / 128) / 4) + 512; omega
    | ⟨1, _⟩ => show 128 * ((4 * ((y 0).val / 512) + (y 1).val / 128) % 4) ≤ (y 1).val ∧ (y 1).val < 128 * ((4 * ((y 0).val / 512) + (y 1).val / 128) % 4) + 128; omega

/-- The block of scales. -/
theorem scales_block : out0_2 (F := Ideal) x = scalesXBlk X t := by
  rw [out0_2_eq]
  funext y
  refine View.canon_apply_of_pieces (Val := Elt Ideal) (e := .f32) (scalesXBlk X t) _ ?_ y ?_
  · intro p hp e
    obtain ⟨i, -, rfl⟩ := List.mem_map.1 hp
    obtain ⟨j, rfl⟩ : ∃ (j : Fin 512), e = ix3 0 0 j := ⟨e 2, by
      funext a
      match a with
      | ⟨0, _⟩ => exact Subsingleton.elim (α := Fin 1) _ _
      | ⟨1, _⟩ => exact Subsingleton.elim (α := Fin 1) _ _
      | ⟨2, _⟩ => rfl⟩
    show k0_pay9 (scaleX (pieceX x i)) (ix3 0 0 j) = _
    rw [pay9_apply, piece_scale X t x hx]
    unfold scalesXBlk
    congr 1 <;> apply Fin.ext
    show 512 * (i.val / 4) + j.val = 512 * (i.val / 4) + 1 * j.val; omega
  · have h0 : (y 0).val < 4 := (y 0).isLt
    have h1 : (y 1).val < 1 := (y 1).isLt
    have h2 : (y 2).val < 2560 := (y 2).isLt
    refine ⟨_, List.mem_map.2 ⟨⟨4 * ((y 2).val / 512) + (y 0).val, by omega⟩, by simp, rfl⟩, ?_⟩
    rw [Rect.mem_set_unit]
    intro a
    match a with
    | ⟨0, _⟩ => show (4 * ((y 2).val / 512) + (y 0).val) % 4 ≤ (y 0).val ∧ (y 0).val < (4 * ((y 2).val / 512) + (y 0).val) % 4 + 1; omega
    | ⟨1, _⟩ => show 0 ≤ (y 1).val ∧ (y 1).val < 0 + 1; omega
    | ⟨2, _⟩ => show 512 * ((4 * ((y 2).val / 512) + (y 0).val) / 4) ≤ (y 2).val ∧ (y 2).val < 512 * ((4 * ((y 2).val / 512) + (y 0).val) / 4) + 512; omega

end

end Cert.KernelIdeal.Val

end
-- ==== Proof.XArrays.lean ====
/- What the first region leaves in its three result arrays, as functions of the operand's array. -/
module

public import proofs.«01_k».proof.Proof.XValue
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Cert.KernelIdeal Cert.KernelIdeal.Gen Cert.Quant
open Idealize.ShloMosaic.Pipeline (Dat Cfg Window)

variable (V : (c : Dev nD) → (b : Ref sig .tc) → Buf (Elt Ideal) ((c : Thread nD τ).loc b))

/-- The windows' block indices at each point of the first region. -/
theorem idx0 : ∀ t : Fin cfg0.N, win0_0.index t = ![t.val, 0] ∧ win0_1.index t = ![0, t.val] ∧ win0_2.index t = ![t.val, 0, 0] ∧ win0_3.index t = ![0, t.val] :=
  (by decide +kernel : ∀ t : Fin grid0.N, _)

/-- The input block at a point is 512 rows of the operand. -/
theorem iblk0_apply (c : Dev nD) (t : Fin cfg0.N) (a : Fin 512) (b : Fin 2560) :
    (iblk0 V c 0 t : Vec Ideal S512x2560 .bf16) (ix2 a b) = V c main_v0 (ix2 (tokX t a.val a.isLt) b) := by
  have hi := (idx0 t).1
  unfold iblk0
  rw [View.read_apply]
  show V c main_v0 _ = V c main_v0 _
  congr 1
  funext a'
  apply Fin.ext
  match a' with
  | ⟨0, _⟩ => show win0_0.index t 0 * 512 + 1 * a.val = 512 * t.val + a.val; rw [hi]; show t.val * 512 + 1 * a.val = _; omega
  | ⟨1, _⟩ => show win0_0.index t 1 * 2560 + 1 * b.val = b.val; rw [hi]; show 0 * 2560 + 1 * b.val = _; omega

/-- The array of codes, channel by token. -/
theorem codesX_final (c : Dev nD) : (dat0 V c).arrAt 1 cfg0.N = fun e => codeK cX loX hiX (V c main_v0) (e 1) (e 0) := by
  refine (dat0 V c).arrAt_eq_of_covers 1 _ (by decide +kernel) fun t hf y => ?_
  have hi := (idx0 t).2.1
  blk_simp
  rw [after0_1, codes_block (V c main_v0) t (iblk0 V c 0 t) (iblk0_apply V c t)]
  refine codesXBlk_eq _ t y _ _ ?_ ?_
  · show win0_1.index t 1 * 512 + 1 * (y 1).val = 512 * t.val + (y 1).val; rw [hi]; show t.val * 512 + 1 * (y 1).val = _; omega
  · show win0_1.index t 0 * 2560 + 1 * (y 0).val = (y 0).val; rw [hi]; show 0 * 2560 + 1 * (y 0).val = _; omega

/-- The array of dequantised values, channel by token. -/
theorem deqX_final (c : Dev nD) : (dat0 V c).arrAt 3 cfg0.N = fun e => deqK cX loX hiX (V c main_v0) (e 1) (e 0) := by
  refine (dat0 V c).arrAt_eq_of_covers 3 _ (by decide +kernel) fun t hf y => ?_
  have hi := (idx0 t).2.2.2
  blk_simp
  rw [after0_3, deq_block (V c main_v0) t (iblk0 V c 0 t) (iblk0_apply V c t)]
  refine deqXBlk_eq _ t y _ _ ?_ ?_
  · show win0_3.index t 1 * 512 + 1 * (y 1).val = 512 * t.val + (y 1).val; rw [hi]; show t.val * 512 + 1 * (y 1).val = _; omega
  · show win0_3.index t 0 * 2560 + 1 * (y 0).val = (y 0).val; rw [hi]; show 0 * 2560 + 1 * (y 0).val = _; omega

/-- The array of scales, block of tokens by channel. -/
theorem scalesX_final (c : Dev nD) : (dat0 V c).arrAt 2 cfg0.N = fun e => scaleK cX (V c main_v0) (e 0) (e 2) := by
  refine (dat0 V c).arrAt_eq_of_covers 2 _ (by decide +kernel) fun t hf y => ?_
  have hi := (idx0 t).2.2.1
  blk_simp
  rw [after0_2, scales_block (V c main_v0) t (iblk0 V c 0 t) (iblk0_apply V c t)]
  refine scalesXBlk_eq _ t y _ _ ?_ ?_
  · show win0_2.index t 0 * 4 + 1 * (y 0).val = 4 * t.val + (y 0).val; rw [hi]; show t.val * 4 + 1 * (y 0).val = _; omega
  · show win0_2.index t 2 * 2560 + 1 * (y 2).val = (y 2).val; rw [hi]; show 0 * 2560 + 1 * (y 2).val = _; omega

end Cert.KernelIdeal.Val

end
-- ==== Proof.YBlock.lean ====
/- What one point of the second region stores: the pieces of its outputs, written as lists over the pieces' numbers. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic Cert.KernelIdeal Cert.KernelIdeal.Gen

variable {F : FTy → Type} [FloatOps F]

/-- The scales of one 128 x 256 piece of `dy`, a row of 256. -/
def scaleY (v : Vec F S128x256 .bf16) : FVec F S1x256 .f32 :=
  k1_pay9 (k1_pay4 v) (k1_pay5 v) (k1_pay6 v) (k1_pay7 v)

/-- One 128 x 256 piece of `dy` divided by its scales. -/
def rawY (v : Vec F S128x256 .bf16) : FVec F S128x256 .bf16 :=
  k1_pay10 (k1_pay3 v) (k1_pay4 v) (k1_pay5 v) (k1_pay6 v) (k1_pay7 v)

theorem inbLoadY (i : Fin 40) : ∀ a : Fin 2, (![128 * (i.val % 8), 256 * (i.val / 8)] : Fin 2 → Nat) a + S128x256.size a ≤ S1024x1280.size a := by
  revert i; decide +kernel
theorem inbCodeY (i : Fin 40) : ∀ a : Fin 2, (![256 * (i.val / 8), 128 * (i.val % 8)] : Fin 2 → Nat) a + S256x128.size a ≤ S1280x1024.size a := by
  revert i; decide +kernel
theorem inbScaleY (i : Fin 40) : ∀ a : Fin 3, (![i.val % 8, 0, 256 * (i.val / 8)] : Fin 3 → Nat) a + S1x1x256.size a ≤ S8x1x1280.size a := by
  revert i; decide +kernel
theorem inbDw (n : Fin 5) : ∀ a : Fin 2, (![0, 256 * n.val] : Fin 2 → Nat) a + S2560x256.size a ≤ S2560x1280.size a := by
  revert n; decide +kernel
theorem inbDeq (n : Fin 5) : ∀ a : Fin 2, (![0, 256 * n.val] : Fin 2 → Nat) a + S1024x256.size a ≤ S1024x1280.size a := by
  revert n; decide +kernel

/-- Piece `i` of a 1024 x 1280 block of `dy`. -/
def pieceY (x : Vec F S1024x1280 .bf16) (i : Fin 40) : Vec F S128x256 .bf16 :=
  View.ld x (Rect.unit (s := S1024x1280) ![128 * (i.val % 8), 256 * (i.val / 8)] S128x256.size (inbLoadY i))

/-- The stores of the codes, last first. -/
def codesL (x : Vec F S1024x1280 .bf16) : List (View.Piece (Elt F) S1280x1024 .fp8e5m2) :=
  (List.finRange 40).reverse.map fun i =>
    ⟨Rect.unit (s := S1280x1024) ![256 * (i.val / 8), 128 * (i.val % 8)] S256x128.size (inbCodeY i),
      k1_pay14 (rawY (pieceY x i)) (Scalar.ofBits .f32 0xC7600000#32) (Scalar.ofBits .f32 0x47600000#32)⟩

/-- The stores of the scales, last first. -/
def scalesL (x : Vec F S1024x1280 .bf16) : List (View.Piece (Elt F) S8x1x1280 .f32) :=
  (List.finRange 40).reverse.map fun i =>
    ⟨Rect.unit (s := S8x1x1280) ![i.val % 8, 0, 256 * (i.val / 8)] S1x1x256.size (inbScaleY i), k1_pay11 (scaleY (pieceY x i))⟩

/-- The first `n` stores of the dequantised values into the scratch block, last first. -/
def deqL (x : Vec F S1024x1280 .bf16) (n : Nat) (hn : n ≤ 40) : List (View.Piece (Elt F) S1024x1280 .bf16) :=
  (List.finRange n).reverse.map fun i =>
    ⟨Rect.unit (s := S1024x1280) ![128 * ((i.castLE hn).val % 8), 256 * ((i.castLE hn).val / 8)] S128x256.size (inbLoadY (i.castLE hn)),
      k1_pay13 (scaleY (pieceY x (i.castLE hn))) (rawY (pieceY x (i.castLE hn))) (Scalar.ofBits .f32 0xC7600000#32) (Scalar.ofBits .f32 0x47600000#32)⟩

/-- Column chunk `n` of a 2560 x 1280 block. -/
abbrev chunk (n : Fin 5) : Rect S2560x1280 := Rect.unit (s := S2560x1280) ![0, 256 * n.val] S2560x256.size (inbDw n)

/-- The scratch block's column chunk `n`, as it is read after the first `8 (n + 1)` stores. -/
def deqChunk (v : View sig .tc .vmem S1024x1280 .bf16) (x : Vec F S1024x1280 .bf16) (n : Fin 5) : Vec F S1024x256 .bf16 :=
  v.readCov (deqL x (8 * (n.val + 1)) (by omega)) (Rect.unit (s := S1024x1280) ![0, 256 * n.val] S1024x256.size (inbDeq n)).toLoadRect

theorem inbW0 : ∀ a : Fin 2, (![0, 0] : Fin 2 → Nat) a + S2560x1024.size a ≤ S2560x1024.size a := by decide +kernel
theorem inbZ : ∀ a : Fin 2, (![0, 0] : Fin 2 → Nat) a + S2560x1280.size a ≤ S2560x1280.size a := by decide +kernel

/-- The 2560 x 1024 block, as the body loads it. -/
def allX (w : Vec F S2560x1024 .bf16) : Vec F S2560x1024 .bf16 :=
  View.ld w (Rect.unit (s := S2560x1024) ![0, 0] S2560x1024.size inbW0)

/-- The first `n` chunks' stores of the product at a first point, after the zeros, last first. -/
def dwLA (v4 : View sig .tc .vmem S2560x1280 .f32) (v7 : View sig .tc .vmem S1024x1280 .bf16) (w : Vec F S2560x1024 .bf16) (x : Vec F S1024x1280 .bf16) :
    (n : Nat) → n ≤ 5 → List (View.Piece (Elt F) S2560x1280 .f32)
  | 0, _ => [⟨Rect.unit (s := S2560x1280) ![0, 0] S2560x1280.size inbZ, k1_pay2⟩]
  | n + 1, h => ⟨chunk ⟨n, h⟩, k1_pay1 (v4.readCov (dwLA v4 v7 w x n (Nat.le_of_succ_le h)) (chunk ⟨n, h⟩).toLoadRect) (allX w) (deqChunk v7 x ⟨n, h⟩)⟩ ::
      dwLA v4 v7 w x n (Nat.le_of_succ_le h)

/-- The five chunks' stores of the product at a later point, onto the contents `a`, last first. -/
def dwLB (v7 : View sig .tc .vmem S1024x1280 .bf16) (a : Vec F S2560x1280 .f32) (w : Vec F S2560x1024 .bf16) (x : Vec F S1024x1280 .bf16) :
    List (View.Piece (Elt F) S2560x1280 .f32) :=
  (List.finRange 5).reverse.map fun n => ⟨chunk n, k1_pay1 (View.ld a (chunk n)) (allX w) (deqChunk v7 x n)⟩

/-- The codes block at a first point (`k = 0`). -/
theorem out1_A_3_eq (c : Dev nD) (i : grid1.Coords) (arg2 : Memref sig .tc .vmem S2560x1024 .bf16) (harg2 : arg2.IsWhole)
    (arg3 : Memref sig .tc .vmem S1024x1280 .bf16) (harg3 : arg3.IsWhole) (arg4 : Memref sig .tc .vmem S2560x1280 .f32) (harg4 : arg4.IsWhole)
    (arg5 : Memref sig .tc .vmem S1280x1024 .fp8e5m2) (harg5 : arg5.IsWhole) (arg6 : Memref sig .tc .vmem S8x1x1280 .f32) (harg6 : arg6.IsWhole)
    (arg7 : Memref sig .tc .vmem S1024x1280 .bf16) (harg7 : arg7.IsWhole) (hc0 : cond1_0 i)
    (x0 : Vec F S2560x1024 .bf16) (x1 : Vec F S1024x1280 .bf16) :
    out1_A_3 c i arg2 harg2 arg3 harg3 arg4 harg4 arg5 harg5 arg6 harg6 arg7 harg7 hc0 x0 x1 = View.canon (codesL x1) := by
  have h : (kernelRun1_A c i arg2 harg2 arg3 harg3 arg4 harg4 arg5 harg5 arg6 harg6 arg7 harg7 hc0 x0 x1).2.1 = codesL (arg3.view.read (Elt F) (harg3.unread x1)) := by sl_kernel_rfl
  unfold out1_A_3
  rw [View.read_writes_junk_eq_canon, h, harg3.read_unread]

/-- The scales block at a first point (`k = 0`). -/
theorem out1_A_4_eq (c : Dev nD) (i : grid1.Coords) (arg2 : Memref sig .tc .vmem S2560x1024 .bf16) (harg2 : arg2.IsWhole)
    (arg3 : Memref sig .tc .vmem S1024x1280 .bf16) (harg3 : arg3.IsWhole) (arg4 : Memref sig .tc .vmem S2560x1280 .f32) (harg4 : arg4.IsWhole)
    (arg5 : Memref sig .tc .vmem S1280x1024 .fp8e5m2) (harg5 : arg5.IsWhole) (arg6 : Memref sig .tc .vmem S8x1x1280 .f32) (harg6 : arg6.IsWhole)
    (arg7 : Memref sig .tc .vmem S1024x1280 .bf16) (harg7 : arg7.IsWhole) (hc0 : cond1_0 i)
    (x0 : Vec F S2560x1024 .bf16) (x1 : Vec F S1024x1280 .bf16) :
    out1_A_4 c i arg2 harg2 arg3 harg3 arg4 harg4 arg5 harg5 arg6 harg6 arg7 harg7 hc0 x0 x1 = View.canon (scalesL x1) := by
  have h : (kernelRun1_A c i arg2 harg2 arg3 harg3 arg4 harg4 arg5 harg5 arg6 harg6 arg7 harg7 hc0 x0 x1).2.2.1 = scalesL (arg3.view.read (Elt F) (harg3.unread x1)) := by sl_kernel_rfl
  unfold out1_A_4
  rw [View.read_writes_junk_eq_canon, h, harg3.read_unread]

/-- The product block at a first point (`k = 0`). -/
theorem out1_A_2_eq (c : Dev nD) (i : grid1.Coords) (arg2 : Memref sig .tc .vmem S2560x1024 .bf16) (harg2 : arg2.IsWhole)
    (arg3 : Memref sig .tc .vmem S1024x1280 .bf16) (harg3 : arg3.IsWhole) (arg4 : Memref sig .tc .vmem S2560x1280 .f32) (harg4 : arg4.IsWhole)
    (arg5 : Memref sig .tc .vmem S1280x1024 .fp8e5m2) (harg5 : arg5.IsWhole) (arg6 : Memref sig .tc .vmem S8x1x1280 .f32) (harg6 : arg6.IsWhole)
    (arg7 : Memref sig .tc .vmem S1024x1280 .bf16) (harg7 : arg7.IsWhole) (hc0 : cond1_0 i)
    (x0 : Vec F S2560x1024 .bf16) (x1 : Vec F S1024x1280 .bf16) :
    out1_A_2 c i arg2 harg2 arg3 harg3 arg4 harg4 arg5 harg5 arg6 harg6 arg7 harg7 hc0 x0 x1 = View.canon (dwLA arg4.view arg7.view x0 x1 5 (by omega)) := by
  have h : (kernelRun1_A c i arg2 harg2 arg3 harg3 arg4 harg4 arg5 harg5 arg6 harg6 arg7 harg7 hc0 x0 x1).1 = dwLA arg4.view arg7.view (arg2.view.read (Elt F) (harg2.unread x0)) (arg3.view.read (Elt F) (harg3.unread x1)) 5 (by omega) := by sl_kernel_rfl
  unfold out1_A_2
  rw [View.read_writes_junk_eq_canon, h, harg2.read_unread, harg3.read_unread]

/-- The codes block at a later point (`k > 0`). -/
theorem out1_B_3_eq (c : Dev nD) (i : grid1.Coords) (arg2 : Memref sig .tc .vmem S2560x1024 .bf16) (harg2 : arg2.IsWhole)
    (arg3 : Memref sig .tc .vmem S1024x1280 .bf16) (harg3 : arg3.IsWhole) (arg4 : Memref sig .tc .vmem S2560x1280 .f32) (harg4 : arg4.IsWhole)
    (arg5 : Memref sig .tc .vmem S1280x1024 .fp8e5m2) (harg5 : arg5.IsWhole) (arg6 : Memref sig .tc .vmem S8x1x1280 .f32) (harg6 : arg6.IsWhole)
    (arg7 : Memref sig .tc .vmem S1024x1280 .bf16) (harg7 : arg7.IsWhole) (hc0 : ¬ cond1_0 i)
    (x0 : Vec F S2560x1024 .bf16) (x1 : Vec F S1024x1280 .bf16) (xo2 : Vec F S2560x1280 .f32) :
    out1_B_3 c i arg2 harg2 arg3 harg3 arg4 harg4 arg5 harg5 arg6 harg6 arg7 harg7 hc0 x0 x1 xo2 = View.canon (codesL x1) := by
  have h : (kernelRun1_B c i arg2 harg2 arg3 harg3 arg4 harg4 arg5 harg5 arg6 harg6 arg7 harg7 hc0 x0 x1 xo2).2.1 = codesL (arg3.view.read (Elt F) (harg3.unread x1)) := by sl_kernel_rfl
  unfold out1_B_3
  rw [View.read_writes_junk_eq_canon, h, harg3.read_unread]

/-- The scales block at a later point (`k > 0`). -/
theorem out1_B_4_eq (c : Dev nD) (i : grid1.Coords) (arg2 : Memref sig .tc .vmem S2560x1024 .bf16) (harg2 : arg2.IsWhole)
    (arg3 : Memref sig .tc .vmem S1024x1280 .bf16) (harg3 : arg3.IsWhole) (arg4 : Memref sig .tc .vmem S2560x1280 .f32) (harg4 : arg4.IsWhole)
    (arg5 : Memref sig .tc .vmem S1280x1024 .fp8e5m2) (harg5 : arg5.IsWhole) (arg6 : Memref sig .tc .vmem S8x1x1280 .f32) (harg6 : arg6.IsWhole)
    (arg7 : Memref sig .tc .vmem S1024x1280 .bf16) (harg7 : arg7.IsWhole) (hc0 : ¬ cond1_0 i)
    (x0 : Vec F S2560x1024 .bf16) (x1 : Vec F S1024x1280 .bf16) (xo2 : Vec F S2560x1280 .f32) :
    out1_B_4 c i arg2 harg2 arg3 harg3 arg4 harg4 arg5 harg5 arg6 harg6 arg7 harg7 hc0 x0 x1 xo2 = View.canon (scalesL x1) := by
  have h : (kernelRun1_B c i arg2 harg2 arg3 harg3 arg4 harg4 arg5 harg5 arg6 harg6 arg7 harg7 hc0 x0 x1 xo2).2.2.1 = scalesL (arg3.view.read (Elt F) (harg3.unread x1)) := by sl_kernel_rfl
  unfold out1_B_4
  rw [View.read_writes_junk_eq_canon, h, harg3.read_unread]

/-- The product block at a later point (`k > 0`). -/
theorem out1_B_2_eq (c : Dev nD) (i : grid1.Coords) (arg2 : Memref sig .tc .vmem S2560x1024 .bf16) (harg2 : arg2.IsWhole)
    (arg3 : Memref sig .tc .vmem S1024x1280 .bf16) (harg3 : arg3.IsWhole) (arg4 : Memref sig .tc .vmem S2560x1280 .f32) (harg4 : arg4.IsWhole)
    (arg5 : Memref sig .tc .vmem S1280x1024 .fp8e5m2) (harg5 : arg5.IsWhole) (arg6 : Memref sig .tc .vmem S8x1x1280 .f32) (harg6 : arg6.IsWhole)
    (arg7 : Memref sig .tc .vmem S1024x1280 .bf16) (harg7 : arg7.IsWhole) (hc0 : ¬ cond1_0 i)
    (x0 : Vec F S2560x1024 .bf16) (x1 : Vec F S1024x1280 .bf16) (xo2 : Vec F S2560x1280 .f32) :
    out1_B_2 c i arg2 harg2 arg3 harg3 arg4 harg4 arg5 harg5 arg6 harg6 arg7 harg7 hc0 x0 x1 xo2 = View.canon (dwLB arg7.view xo2 x0 x1) := by
  have h : (kernelRun1_B c i arg2 harg2 arg3 harg3 arg4 harg4 arg5 harg5 arg6 harg6 arg7 harg7 hc0 x0 x1 xo2).1 = dwLB arg7.view (arg4.view.read (Elt F) (harg4.unread xo2)) (arg2.view.read (Elt F) (harg2.unread x0)) (arg3.view.read (Elt F) (harg3.unread x1)) := by sl_kernel_rfl
  unfold out1_B_2
  rw [View.read_writes_junk_eq_canon, h, harg2.read_unread, harg3.read_unread, harg4.read_unread]

end Cert.KernelIdeal.Val

end
-- ==== Proof.YPiece.lean ====
/- What one 128 x 256 piece of the second operand becomes: its scales, its codes and its dequantised values, at an index;
   and one chunk's product. -/
module

public import proofs.«01_k».proof.Proof.YBlock
public import proofs.«01_k».proof.Proof.Quant
public import Idealize.ShloMosaic.Lib.Pointwise

@[expose] public section

set_option maxRecDepth 16384

noncomputable section

namespace Cert.KernelIdeal.Val

open Idealize.ShloMosaic Idealize.ShloMosaic.TcCoe Idealize.ShloMosaic.Tactic Cert.KernelIdeal Cert.KernelIdeal.Gen Cert.Quant

/-- The scale of a piece's channel. -/
theorem scaleY_apply (v : Vec Ideal S128x256 .bf16) (j : Fin 256) :
    scaleY (F := Ideal) v (ix2 0 j) = scale (k1_pay4 v (ix2 0 j)) := by
  sl_kernel_rfl

/-- A piece's token and channel divided by its scale. -/
theorem rawY_apply (v : Vec Ideal S128x256 .bf16) (t : Fin 128) (j : Fin 256) :
    rawY (F := Ideal) v (ix2 t j) = v (ix2 t j) * inv (k1_pay4 v (ix2 0 j)) := by
  have h : ∀ (w : FVec Ideal S128x256 .bf16) a b c d, k1_pay10 (F := Ideal) w a b c d (ix2 t j)
      = w (ix2 t j) * Ideal.ofBits .f32 (IntOp.shli .vector (IntOp.subi 253#32 (k1_pay8 a b c d (ix2 0 j))) 23#32) := by
    intro w a b c d
    pointwise [k1_pay10]
  have h1 : k1_pay3 v = v := by unfold k1_pay3; exact shapeCast_self _ _
  have h2 : k1_pay8 (k1_pay4 v) (k1_pay5 v) (k1_pay6 v) (k1_pay7 v) (ix2 0 j) = field (k1_pay4 v (ix2 0 j)) := by
    sl_kernel_rfl
  unfold rawY
  rw [h, h1, h2]
  rfl

/-- A piece's codes, transposed. -/
theorem pay14_apply (w : FVec Ideal S128x256 .bf16) (j : Fin 256) (t : Fin 128) :
    k1_pay14 (F := Ideal) w (Scalar.ofBits .f32 0xC7600000#32) (Scalar.ofBits .f32 0x47600000#32) (ix2 j t) = min hiY (max loY (w (ix2 t j))) := by
  pointwise [k1_pay14, k1_pay12]
  rfl

/-- A piece's codes times its scales. -/
theorem pay13_apply (s : FVec Ideal S1x256 .f32) (w : FVec Ideal S128x256 .bf16) (t : Fin 128) (j : Fin 256) :
    k1_pay13 (F := Ideal) s w (Scalar.ofBits .f32 0xC7600000#32) (Scalar.ofBits .f32 0x47600000#32) (ix2 t j)
      = min hiY (max loY (w (ix2 t j))) * s (ix2 0 j) := by
  pointwise [k1_pay13, k1_pay12]
  rfl

/-- The piece's row of scales as it is stored. -/
theorem payY11_apply (s : FVec Ideal S1x256 .f32) (j : Fin 256) : k1_pay11 s (ix3 0 0 j) = s (ix2 0 j) := by
  pointwise [k1_pay11]

/-- The ratio of a piece's channel: the greatest magnitude of its 128 tokens, times the constant. -/
theorem pay4_apply (v : Vec Ideal S128x256 .bf16) (j : Fin 256) : k1_pay4 (F := Ideal) v (ix2 0 j) = amax (fun t => v (ix2 t j)) * cY := by
  rw [← fold_strips]
  pointwise [k1_pay4, k1_pay3]
  rfl

/-- One chunk's product onto what was there. -/
theorem pay1_apply (a : FVec Ideal S2560x256 .f32) (w : FVec Ideal S2560x1024 .bf16) (d : FVec Ideal S1024x256 .bf16) (i : Fin 2560) (j : Fin 256) :
    k1_pay1 (F := Ideal) a w d (ix2 i j) = a (ix2 i j) + ∑ t : Fin 1024, w (ix2 i t) * d (ix2 t j) := by
  pointwise [k1_pay1]

/-- The zeros a first point stores. -/
theorem payZ_apply (i : Fin 2560) (j : Fin 1280) : k1_pay2 (F := Ideal) (ix2 i j) = 0 := by
  pointwise [k1_pay2]

end Cert.KernelIdeal.Val

end
-- ==== Proof.YValue.lean ====
/- What one point of the second region leaves in its three output blocks, in terms of the operands' arrays. -/
module

public import proofs.«01_k».proof.Proof.YPiece
public import Idealize.ShloMosaic.Lib.Pipeline.Value

@[expose] public section

set_option maxRecDepth 16384

noncomputable section

namespace Cert.KernelIdeal.Val

open Idealize.ShloMosaic Idealize.ShloMosaic.TcCoe Idealize.ShloMosaic.Tactic Cert.KernelIdeal Cert.KernelIdeal.Gen Cert.Quant

/-- Piece `i` of a block at an index. -/
theorem pieceY_apply (x : Vec Ideal S1024x1280 .bf16) (i : Fin 40) (a : Fin 128) (b : Fin 256) :
    pieceY x i (ix2 a b) = x (ix2 ⟨128 * (i.val % 8) + a.val, by omega⟩ ⟨256 * (i.val / 8) + b.val, by omega⟩) := by
  unfold pieceY
  show x _ = x _
  congr 1
  funext a'
  apply Fin.ext
  match a' with
  | ⟨0, _⟩ => show 128 * (i.val % 8) + 1 * a.val = _; rw [Nat.one_mul]; rfl
  | ⟨1, _⟩ => show 256 * (i.val / 8) + 1 * b.val = _; rw [Nat.one_mul]; rfl

/-- Token `a` of block `k` of 1024. -/
abbrev tok (k : Fin 24) (a : Nat) (ha : a < 1024) : Fin 24576 := ⟨1024 * k.val + a, by omega⟩
/-- Channel `b` of block `p` of 1280. -/
abbrev chan (p : Fin 4) (b : Nat) (hb : b < 1280) : Fin 5120 := ⟨1280 * p.val + b, by omega⟩

/-- Block `(p, k)` of the codes' array: channel by token. -/
def codesYBlk (Y : Vec Ideal S24576x5120 .bf16) (p : Fin 4) (k : Fin 24) : Vec Ideal S1280x1024 .fp8e5m2 :=
  fun y => codeK cY loY hiY Y (tok k (y 1).val (y 1).isLt) (chan p (y 0).val (y 0).isLt)

/-- Block `(p, k)` of the dequantised values: token by channel. -/
def deqYBlk (Y : Vec Ideal S24576x5120 .bf16) (p : Fin 4) (k : Fin 24) : Vec Ideal S1024x1280 .bf16 :=
  fun y => deqK cY loY hiY Y (tok k (y 0).val (y 0).isLt) (chan p (y 1).val (y 1).isLt)

/-- Block `(p, k)` of the scales' array: eight blocks of tokens by channel. -/
def scalesYBlk (Y : Vec Ideal S24576x5120 .bf16) (p : Fin 4) (k : Fin 24) : Vec Ideal S8x1x1280 .f32 :=
  fun y => scaleK cY Y ⟨8 * k.val + (y 0).val, by have : (y 0).val < 8 := (y 0).isLt; omega⟩ (chan p (y 2).val (y 2).isLt)

/-- The block of tokens that piece `i` of block `k` is. -/
def blockOfY (k : Fin 24) (i : Fin 40) : Fin 192 := ⟨8 * k.val + i.val % 8, by omega⟩

/-- A block of codes at an index is the array's function there. -/
theorem codesYBlk_eq (Y : Vec Ideal S24576x5120 .bf16) (p : Fin 4) (k : Fin 24) (y : S1280x1024.Idx) (T : Fin 24576) (C : Fin 5120)
    (hT : T.val = 1024 * k.val + (y 1).val) (hC : C.val = 1280 * p.val + (y 0).val) : codesYBlk Y p k y = codeK cY loY hiY Y T C := by
  unfold codesYBlk
  congr 1 <;> apply Fin.ext
  · exact hT.symm
  · exact hC.symm

/-- A block of scales at an index is the array's function there. -/
theorem scalesYBlk_eq (Y : Vec Ideal S24576x5120 .bf16) (p : Fin 4) (k : Fin 24) (y : S8x1x1280.Idx) (K : Fin 192) (C : Fin 5120)
    (hK : K.val = 8 * k.val + (y 0).val) (hC : C.val = 1280 * p.val + (y 2).val) : scalesYBlk Y p k y = scaleK cY Y K C := by
  unfold scalesYBlk
  congr 1 <;> apply Fin.ext
  · exact hK.symm
  · exact hC.symm

section
variable (Y : Vec Ideal S24576x5120 .bf16) (p : Fin 4) (k : Fin 24) (x : Vec Ideal S1024x1280 .bf16)
  (hx : ∀ (a : Fin 1024) (b : Fin 1280), x (ix2 a b) = Y (ix2 (tok k a.val a.isLt) (chan p b.val b.isLt)))
include hx

/-- The ratio of a piece's channel is that of its block of tokens. -/
theorem pieceY_ratio (i : Fin 40) (j : Fin 256) :
    k1_pay4 (F := Ideal) (pieceY x i) (ix2 0 j) = ratio cY Y (blockOfY k i) (chan p (256 * (i.val / 8) + j.val) (by omega)) := by
  rw [pay4_apply]
  refine ratio_piece cY Y _ _ _ fun s => ?_
  rw [pieceY_apply, hx]
  congr 2
  apply Fin.ext
  show 1024 * k.val + (128 * (i.val % 8) + s.val) = (8 * k.val + i.val % 8) * 128 + s.val
  omega

theorem pieceY_scale (i : Fin 40) (j : Fin 256) :
    scaleY (F := Ideal) (pieceY x i) (ix2 0 j) = scaleK cY Y (blockOfY k i) (chan p (256 * (i.val / 8) + j.val) (by omega)) := by
  rw [scaleY_apply, pieceY_ratio Y p k x hx]; rfl

theorem pieceY_code (i : Fin 40) (s : Fin 128) (j : Fin 256) (T : Fin 24576) (hT : T.val = 1024 * k.val + (128 * (i.val % 8) + s.val)) :
    min hiY (max loY (rawY (F := Ideal) (pieceY x i) (ix2 s j))) = codeK cY loY hiY Y T (chan p (256 * (i.val / 8) + j.val) (by omega)) := by
  rw [rawY_apply, pieceY_ratio Y p k x hx, pieceY_apply, hx,
    ← code_piece cY loY hiY Y (blockOfY k i) _ T (by rw [hT]; show _ = 8 * k.val + i.val % 8; omega)]
  congr 5
  apply Fin.ext
  rw [hT]

/-- The block of codes. -/
theorem codesY_block : View.canon (codesL (F := Ideal) x) = codesYBlk Y p k := by
  unfold codesL
  funext y
  refine View.canon_apply_of_pieces (Val := Elt Ideal) (e := .fp8e5m2) (codesYBlk Y p k) _ ?_ y ?_
  · intro q hq e
    obtain ⟨i, -, rfl⟩ := List.mem_map.1 hq
    obtain ⟨j, s, rfl⟩ : ∃ (j : Fin 256) (s : Fin 128), e = ix2 j s := ⟨e 0, e 1, by funext a; match a with | ⟨0, _⟩ => rfl | ⟨1, _⟩ => rfl⟩
    show k1_pay14 (rawY (pieceY x i)) _ _ (ix2 j s) = _
    rw [pay14_apply, pieceY_code Y p k x hx i s j ⟨1024 * k.val + (128 * (i.val % 8) + s.val), by omega⟩ rfl]
    congr 1 <;> apply Fin.ext
    · show 1024 * k.val + (128 * (i.val % 8) + s.val) = 1024 * k.val + (128 * (i.val % 8) + 1 * s.val); omega
    · show 1280 * p.val + (256 * (i.val / 8) + j.val) = 1280 * p.val + (256 * (i.val / 8) + 1 * j.val); omega
  · have h0 : (y 0).val < 1280 := (y 0).isLt
    have h1 : (y 1).val < 1024 := (y 1).isLt
    refine ⟨_, List.mem_map.2 ⟨⟨8 * ((y 0).val / 256) + (y 1).val / 128, by omega⟩, by simp, rfl⟩, ?_⟩
    rw [Rect.mem_set_unit]
    intro a
    match a with
    | ⟨0, _⟩ => show 256 * ((8 * ((y 0).val / 256) + (y 1).val / 128) / 8) ≤ (y 0).val ∧ (y 0).val < 256 * ((8 * ((y 0).val / 256) + (y 1).val / 128) / 8) + 256; omega
    | ⟨1, _⟩ => show 128 * ((8 * ((y 0).val / 256) + (y 1).val / 128) % 8) ≤ (y 1).val ∧ (y 1).val < 128 * ((8 * ((y 0).val / 256) + (y 1).val / 128) % 8) + 128; omega

/-- The block of scales. -/
theorem scalesY_block : View.canon (scalesL (F := Ideal) x) = scalesYBlk Y p k := by
  unfold scalesL
  funext y
  refine View.canon_apply_of_pieces (Val := Elt Ideal) (e := .f32) (scalesYBlk Y p k) _ ?_ y ?_
  · intro q hq e
    obtain ⟨i, -, rfl⟩ := List.mem_map.1 hq
    obtain ⟨j, rfl⟩ : ∃ (j : Fin 256), e = ix3 0 0 j := ⟨e 2, by
      funext a
      match a with
      | ⟨0, _⟩ => exact Subsingleton.elim (α := Fin 1) _ _
      | ⟨1, _⟩ => exact Subsingleton.elim (α := Fin 1) _ _
      | ⟨2, _⟩ => rfl⟩
    show k1_pay11 (scaleY (pieceY x i)) (ix3 0 0 j) = _
    rw [payY11_apply, pieceY_scale Y p k x hx]
    unfold scalesYBlk
    congr 1 <;> apply Fin.ext
    show 1280 * p.val + (256 * (i.val / 8) + j.val) = 1280 * p.val + (256 * (i.val / 8) + 1 * j.val); omega
  · have h0 : (y 0).val < 8 := (y 0).isLt
    have h1 : (y 1).val < 1 := (y 1).isLt
    have h2 : (y 2).val < 1280 := (y 2).isLt
    refine ⟨_, List.mem_map.2 ⟨⟨8 * ((y 2).val / 256) + (y 0).val, by omega⟩, by simp, rfl⟩, ?_⟩
    rw [Rect.mem_set_unit]
    intro a
    match a with
    | ⟨0, _⟩ => show (8 * ((y 2).val / 256) + (y 0).val) % 8 ≤ (y 0).val ∧ (y 0).val < (8 * ((y 2).val / 256) + (y 0).val) % 8 + 1; omega
    | ⟨1, _⟩ => show 0 ≤ (y 1).val ∧ (y 1).val < 0 + 1; omega
    | ⟨2, _⟩ => show 256 * ((8 * ((y 2).val / 256) + (y 0).val) / 8) ≤ (y 2).val ∧ (y 2).val < 256 * ((8 * ((y 2).val / 256) + (y 0).val) / 8) + 256; omega

/-- A piece's dequantised values are those of its place in the block. -/
theorem pieceY_deq (i : Fin 40) (s : Fin 128) (j : Fin 256) :
    k1_pay13 (F := Ideal) (scaleY (pieceY x i)) (rawY (pieceY x i)) (Scalar.ofBits .f32 0xC7600000#32) (Scalar.ofBits .f32 0x47600000#32) (ix2 s j)
      = deqYBlk Y p k ((Rect.unit (s := S1024x1280) ![128 * (i.val % 8), 256 * (i.val / 8)] S128x256.size (inbLoadY i)).emb (ix2 s j)) := by
  rw [pay13_apply, pieceY_scale Y p k x hx, pieceY_code Y p k x hx i s j ⟨1024 * k.val + (128 * (i.val % 8) + s.val), by omega⟩ rfl,
    deq_piece cY loY hiY Y (blockOfY k i) _ _ (by show (1024 * k.val + (128 * (i.val % 8) + s.val)) / 128 = 8 * k.val + i.val % 8; omega)]
  unfold deqYBlk
  congr 1 <;> apply Fin.ext
  · show 1024 * k.val + (128 * (i.val % 8) + s.val) = 1024 * k.val + (128 * (i.val % 8) + 1 * s.val); omega
  · show 1280 * p.val + (256 * (i.val / 8) + j.val) = 1280 * p.val + (256 * (i.val / 8) + 1 * j.val); omega

/-- The scratch block's column chunk `n` as the product reads it. -/
theorem deqChunk_apply (v : View sig .tc .vmem S1024x1280 .bf16) (n : Fin 5) (s : Fin 1024) (j : Fin 256) :
    deqChunk (F := Ideal) v x n (ix2 s j) = deqK cY loY hiY Y (tok k s.val s.isLt) (chan p (256 * n.val + j.val) (by omega)) := by
  unfold deqChunk
  rw [View.readCov_eq_canon']
  have key : ∀ (y : S1024x1280.Idx), (y 1).val < 256 * (n.val + 1) → View.canon (deqL (F := Ideal) x (8 * (n.val + 1)) (by omega)) y = deqYBlk Y p k y := by
    intro y hy
    unfold deqL
    refine View.canon_apply_of_pieces (Val := Elt Ideal) (e := .bf16) (deqYBlk Y p k) _ ?_ y ?_
    · intro q hq e
      obtain ⟨i', -, rfl⟩ := List.mem_map.1 hq
      obtain ⟨s, j, rfl⟩ : ∃ (s : Fin 128) (j : Fin 256), e = ix2 s j := ⟨e 0, e 1, by funext a; match a with | ⟨0, _⟩ => rfl | ⟨1, _⟩ => rfl⟩
      exact pieceY_deq Y p k x hx (i'.castLE _) s j
    · have h0 : (y 0).val < 1024 := (y 0).isLt
      refine ⟨_, List.mem_map.2 ⟨⟨8 * ((y 1).val / 256) + (y 0).val / 128, by omega⟩, by simp, rfl⟩, ?_⟩
      rw [Rect.mem_set_unit]
      intro a
      match a with
      | ⟨0, _⟩ => show 128 * ((8 * ((y 1).val / 256) + (y 0).val / 128) % 8) ≤ (y 0).val ∧ (y 0).val < 128 * ((8 * ((y 1).val / 256) + (y 0).val / 128) % 8) + 128; omega
      | ⟨1, _⟩ => show 256 * ((8 * ((y 1).val / 256) + (y 0).val / 128) / 8) ≤ (y 1).val ∧ (y 1).val < 256 * ((8 * ((y 1).val / 256) + (y 0).val / 128) / 8) + 256; omega
  refine (key _ ?_).trans ?_
  · show 256 * n.val + 1 * j.val < 256 * (n.val + 1); omega
  · unfold deqYBlk
    congr 1 <;> apply Fin.ext
    · show 1024 * k.val + (0 + 1 * s.val) = 1024 * k.val + s.val; omega
    · show 1280 * p.val + (256 * n.val + 1 * j.val) = 1280 * p.val + (256 * n.val + j.val); omega

end

/-- The sum of one point's 1024 products. -/
def part (X : Vec Ideal S24576x2560 .bf16) (Y : Vec Ideal S24576x5120 .bf16) (p : Fin 4) (k : Fin 24) (i : Fin 2560) (j : Fin 1280) : EReal :=
  ∑ s : Fin 1024, deqK cX loX hiX X (tok k s.val s.isLt) i * deqK cY loY hiY Y (tok k s.val s.isLt) (chan p j.val j.isLt)

section
variable (X : Vec Ideal S24576x2560 .bf16) (Y : Vec Ideal S24576x5120 .bf16) (p : Fin 4) (k : Fin 24)
  (w : Vec Ideal S2560x1024 .bf16) (x : Vec Ideal S1024x1280 .bf16)
  (hw : ∀ (a : Fin 2560) (b : Fin 1024), w (ix2 a b) = deqK cX loX hiX X (tok k b.val b.isLt) a)
  (hx : ∀ (a : Fin 1024) (b : Fin 1280), x (ix2 a b) = Y (ix2 (tok k a.val a.isLt) (chan p b.val b.isLt)))
include hw hx

/-- One chunk's product at an index. -/
theorem chunk_value (v7 : View sig .tc .vmem S1024x1280 .bf16) (a : FVec Ideal S2560x256 .f32) (n : Fin 5) (i : Fin 2560) (j : Fin 256) :
    k1_pay1 (F := Ideal) a (allX w) (deqChunk v7 x n) (ix2 i j) = a (ix2 i j) + part X Y p k i ⟨256 * n.val + j.val, by omega⟩ := by
  rw [pay1_apply]
  congr 1
  unfold part
  refine Finset.sum_congr rfl fun s _ => ?_
  rw [deqChunk_apply Y p k x hx, ← hw]
  congr 1
  unfold allX
  show w _ = w _
  congr 1
  funext a'
  apply Fin.ext
  match a' with
  | ⟨0, _⟩ => show 0 + 1 * i.val = i.val; omega
  | ⟨1, _⟩ => show 0 + 1 * s.val = s.val; omega

/-- The product at a later point: what was there and the point's part. -/
theorem dwB_value (v7 : View sig .tc .vmem S1024x1280 .bf16) (a : Vec Ideal S2560x1280 .f32) :
    View.canon (dwLB (F := Ideal) v7 a w x) = fun y => a y + part X Y p k (y 0) (y 1) := by
  unfold dwLB
  funext y
  refine View.canon_apply_of_pieces (Val := Elt Ideal) (e := .f32) (fun y => a y + part X Y p k (y 0) (y 1) : Vec Ideal S2560x1280 .f32) _ ?_ y ?_
  · intro q hq e
    obtain ⟨n, -, rfl⟩ := List.mem_map.1 hq
    obtain ⟨i, j, rfl⟩ : ∃ (i : Fin 2560) (j : Fin 256), e = ix2 i j := ⟨e 0, e 1, by funext a; match a with | ⟨0, _⟩ => rfl | ⟨1, _⟩ => rfl⟩
    show k1_pay1 _ _ _ (ix2 i j) = _
    rw [chunk_value X Y p k w x hw hx]
    congr 1
    congr 1 <;> apply Fin.ext
    · show i.val = 0 + 1 * i.val; omega
    · show 256 * n.val + j.val = 256 * n.val + 1 * j.val; omega
  · have h0 : (y 0).val < 2560 := (y 0).isLt
    have h1 : (y 1).val < 1280 := (y 1).isLt
    refine ⟨_, List.mem_map.2 ⟨⟨(y 1).val / 256, by omega⟩, by simp, rfl⟩, ?_⟩
    rw [Rect.mem_set_unit]
    intro a
    match a with
    | ⟨0, _⟩ => show 0 ≤ (y 0).val ∧ (y 0).val < 0 + 2560; omega
    | ⟨1, _⟩ => show 256 * ((y 1).val / 256) ≤ (y 1).val ∧ (y 1).val < 256 * ((y 1).val / 256) + 256; omega

/-- The product at a first point after `n` chunks: the point's part in these chunks, zero in the others. -/
theorem dwLA_value (v4 : View sig .tc .vmem S2560x1280 .f32) (v7 : View sig .tc .vmem S1024x1280 .bf16) : ∀ (n : Nat) (hn : n ≤ 5) (i : Fin 2560) (j : Fin 1280),
    View.canon (dwLA (F := Ideal) v4 v7 w x n hn) (ix2 i j) = if j.val < 256 * n then 0 + part X Y p k i j else 0
  | 0, hn, i, j => by
    rw [if_neg (by omega), dwLA, ← payZ_apply i j]
    rw [View.canon_unit_zero (by funext a; match a with | ⟨0, _⟩ => rfl | ⟨1, _⟩ => rfl)]
  | n + 1, hn, i, j => by
    have ih := dwLA_value v4 v7 n (Nat.le_of_succ_le hn)
    rw [dwLA]
    by_cases hj : 256 * n ≤ j.val ∧ j.val < 256 * (n + 1)
    · have e : (ix2 i j : S2560x1280.Idx) = (chunk ⟨n, hn⟩).emb (ix2 i (⟨j.val - 256 * n, by omega⟩ : Fin 256)) := by
        funext a
        apply Fin.ext
        match a with
        | ⟨0, _⟩ => show i.val = 0 + 1 * i.val; omega
        | ⟨1, _⟩ => show j.val = 256 * n + 1 * (j.val - 256 * n); omega
      rw [e, View.canon_cons_emb, chunk_value X Y p k w x hw hx, View.readCov_eq_canon', if_pos hj.2]
      congr 1
      · show View.canon _ ((chunk ⟨n, hn⟩).emb (ix2 i (⟨j.val - 256 * n, by omega⟩ : Fin 256))) = 0
        rw [← e, ih, if_neg (by omega)]
      · congr 1
        apply Fin.ext
        show 256 * n + (j.val - 256 * n) = j.val; omega
    · rw [View.canon_cons_of_not_mem, ih]
      · by_cases h : j.val < 256 * n
        · rw [if_pos h, if_pos (by omega)]
        · rw [if_neg h, if_neg (by omega)]
      · rw [Rect.mem_set_unit]
        intro h
        have h1 : 256 * n ≤ j.val ∧ j.val < 256 * n + 256 := h 1
        omega

/-- The product at a first point. -/
theorem dwA_value (v4 : View sig .tc .vmem S2560x1280 .f32) (v7 : View sig .tc .vmem S1024x1280 .bf16) :
    View.canon (dwLA (F := Ideal) v4 v7 w x 5 (by omega)) = fun y => 0 + part X Y p k (y 0) (y 1) := by
  funext y
  obtain ⟨i, j, rfl⟩ : ∃ (i : Fin 2560) (j : Fin 1280), y = ix2 i j := ⟨y 0, y 1, by funext a; match a with | ⟨0, _⟩ => rfl | ⟨1, _⟩ => rfl⟩
  rw [dwLA_value X Y p k w x hw hx, if_pos (by omega)]
  rfl

end

end Cert.KernelIdeal.Val

end
-- ==== Proof.YArrays.lean ====
/- What the second region leaves in its three result arrays, as functions of the operands' arrays. -/
module

public import proofs.«01_k».proof.Proof.YValue
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Cert.KernelIdeal Cert.KernelIdeal.Gen Cert.Quant
open Idealize.ShloMosaic.Pipeline (Dat Cfg Window)

variable (V : (c : Dev nD) → (b : Ref sig .tc) → Buf (Elt Ideal) ((c : Thread nD τ).loc b))

/-- The windows' block indices at each point of the second region. -/
theorem idx1 : ∀ t : Fin cfg1.N, win1_0.index t = ![0, t.val % 24] ∧ win1_1.index t = ![t.val % 24, t.val / 24] ∧ win1_2.index t = ![0, t.val / 24]
    ∧ win1_3.index t = ![t.val / 24, t.val % 24] ∧ win1_4.index t = ![t.val % 24, 0, t.val / 24] :=
  (by decide +kernel : ∀ t : Fin grid1.N, _)

theorem lt96 (t : Fin cfg1.N) : t.val < 96 := t.isLt

/-- The block of columns of the product that point `n` works at. -/
abbrev colOf (n : Nat) (h : n < cfg1.N) : Fin 4 := ⟨n / 24, by have : n < 96 := h; omega⟩
/-- The block of tokens that point `n` works at. -/
abbrev rowOf (n : Nat) : Fin 24 := ⟨n % 24, by omega⟩

/-- The first input block at a point is 1024 tokens of the dequantised first operand. -/
theorem iblk1_0_apply (c : Dev nD) (X : Vec Ideal S24576x2560 .bf16) (hD : V c main_v2_2 = fun e => deqK cX loX hiX X (e 1) (e 0))
    (t : Fin cfg1.N) (a : Fin 2560) (b : Fin 1024) :
    (iblk1 V c 0 t : Vec Ideal S2560x1024 .bf16) (ix2 a b) = deqK cX loX hiX X (tok (rowOf t.val) b.val b.isLt) a := by
  have hi := (idx1 t).1
  unfold iblk1
  rw [View.read_apply]
  show V c main_v2_2 _ = _
  rw [hD]
  show deqK _ _ _ _ _ _ = _
  congr 1 <;> apply Fin.ext
  · show win1_0.index t 1 * 1024 + 1 * b.val = 1024 * (t.val % 24) + b.val; rw [hi]; show t.val % 24 * 1024 + 1 * b.val = _; omega
  · show win1_0.index t 0 * 2560 + 1 * a.val = a.val; rw [hi]; show 0 * 2560 + 1 * a.val = _; omega

/-- The second input block at a point is 1024 rows and 1280 columns of the second operand. -/
theorem iblk1_1_apply (c : Dev nD) (t : Fin cfg1.N) (a : Fin 1024) (b : Fin 1280) :
    (iblk1 V c 1 t : Vec Ideal S1024x1280 .bf16) (ix2 a b) = V c main_v1 (ix2 (tok (rowOf t.val) a.val a.isLt) (chan (colOf t.val t.isLt) b.val b.isLt)) := by
  have hi := (idx1 t).2.1
  unfold iblk1
  rw [View.read_apply]
  show V c main_v1 _ = V c main_v1 _
  congr 1
  funext a'
  apply Fin.ext
  match a' with
  | ⟨0, _⟩ => show win1_1.index t 0 * 1024 + 1 * a.val = 1024 * (t.val % 24) + a.val; rw [hi]; show t.val % 24 * 1024 + 1 * a.val = _; omega
  | ⟨1, _⟩ => show win1_1.index t 1 * 1280 + 1 * b.val = 1280 * (t.val / 24) + b.val; rw [hi]; show t.val / 24 * 1280 + 1 * b.val = _; omega

/-- A point's block of codes. -/
theorem outs_codes (c : Dev nD) (t : Fin cfg1.N) :
    (outsAt1 V c t.val t.isLt).2.1 = codesYBlk (V c main_v1) (colOf t.val t.isLt) (rowOf t.val) := by
  by_cases h0 : t.val % 24 = 0
  · rw [outsAt1_A V c t h0]
    dsimp only
    rw [out1_A_3_eq]
    exact codesY_block _ _ _ _ (iblk1_1_apply V c t)
  · rw [outsAt1_B V c t h0]
    dsimp only
    rw [out1_B_3_eq]
    exact codesY_block _ _ _ _ (iblk1_1_apply V c t)

/-- A point's block of scales. -/
theorem outs_scales (c : Dev nD) (t : Fin cfg1.N) :
    (outsAt1 V c t.val t.isLt).2.2 = scalesYBlk (V c main_v1) (colOf t.val t.isLt) (rowOf t.val) := by
  by_cases h0 : t.val % 24 = 0
  · rw [outsAt1_A V c t h0]
    dsimp only
    rw [out1_A_4_eq]
    exact scalesY_block _ _ _ _ (iblk1_1_apply V c t)
  · rw [outsAt1_B V c t h0]
    dsimp only
    rw [out1_B_4_eq]
    exact scalesY_block _ _ _ _ (iblk1_1_apply V c t)

/-- The array of codes, channel by token. -/
theorem codesY_final (c : Dev nD) : (dat1 V c).arrAt 3 cfg1.N = fun e => codeK cY loY hiY (V c main_v1) (e 1) (e 0) := by
  refine (dat1 V c).arrAt_eq_of_covers 3 _ (by decide +kernel) fun t hf y => ?_
  have hi := (idx1 t).2.2.2.1
  blk_simp
  rw [after1_3, outs_codes]
  refine codesYBlk_eq _ _ _ y _ _ ?_ ?_
  · show win1_3.index t 1 * 1024 + 1 * (y 1).val = 1024 * (t.val % 24) + (y 1).val; rw [hi]; show t.val % 24 * 1024 + 1 * (y 1).val = _; omega
  · show win1_3.index t 0 * 1280 + 1 * (y 0).val = 1280 * (t.val / 24) + (y 0).val; rw [hi]; show t.val / 24 * 1280 + 1 * (y 0).val = _; omega

/-- The array of scales, block of tokens by channel. -/
theorem scalesY_final (c : Dev nD) : (dat1 V c).arrAt 4 cfg1.N = fun e => scaleK cY (V c main_v1) (e 0) (e 2) := by
  refine (dat1 V c).arrAt_eq_of_covers 4 _ (by decide +kernel) fun t hf y => ?_
  have hi := (idx1 t).2.2.2.2
  blk_simp
  rw [after1_4, outs_scales]
  refine scalesYBlk_eq _ _ _ y _ _ ?_ ?_
  · show win1_4.index t 0 * 8 + 1 * (y 0).val = 8 * (t.val % 24) + (y 0).val; rw [hi]; show t.val % 24 * 8 + 1 * (y 0).val = _; omega
  · show win1_4.index t 2 * 1280 + 1 * (y 2).val = 1280 * (t.val / 24) + (y 2).val; rw [hi]; show t.val / 24 * 1280 + 1 * (y 2).val = _; omega

section
variable (c : Dev nD) (X : Vec Ideal S24576x2560 .bf16) (hD : V c main_v2_2 = fun e => deqK cX loX hiX X (e 1) (e 0))
include hD

/-- The first point of a column block leaves its own part. -/
theorem outs_first (t : Fin cfg1.N) (h0 : t.val % 24 = 0) :
    (outsAt1 V c t.val t.isLt).1 = fun y => 0 + part X (V c main_v1) (colOf t.val t.isLt) (rowOf t.val) (y 0) (y 1) := by
  rw [outsAt1_A V c t h0]
  dsimp only
  rw [out1_A_2_eq]
  exact dwA_value X _ _ _ _ _ (iblk1_0_apply V c X hD t) (iblk1_1_apply V c t) _ _

/-- A later point adds its part to what the point before left. -/
theorem outs_later (t : Fin cfg1.N) (h0 : ¬ t.val % 24 = 0) :
    (outsAt1 V c t.val t.isLt).1 = fun y => (outsAt1 V c (t.val - 1) (Nat.lt_of_le_of_lt (Nat.sub_le _ _) t.isLt)).1 y
      + part X (V c main_v1) (colOf t.val t.isLt) (rowOf t.val) (y 0) (y 1) := by
  rw [outsAt1_B V c t h0]
  dsimp only
  rw [out1_B_2_eq]
  exact dwB_value X _ _ _ _ _ (iblk1_0_apply V c X hD t) (iblk1_1_apply V c t) _ _

/-- After point `n` the block holds the sum of the parts of its column block so far. -/
theorem outs_sum : ∀ (n : Nat) (hn : n < cfg1.N) (y : S2560x1280.Idx),
    (outsAt1 V c n hn).1 y = ∑ k ∈ Finset.range (n % 24 + 1), part X (V c main_v1) (colOf n hn) (rowOf k) (y 0) (y 1)
  | 0, hn, y => by
    refine (congrFun (outs_first V c X hD ⟨0, hn⟩ rfl) y).trans ?_
    rw [Finset.sum_range_one, zero_add]
  | n + 1, hn, y => by
    by_cases h0 : (n + 1) % 24 = 0
    · refine (congrFun (outs_first V c X hD ⟨n + 1, hn⟩ h0) y).trans ?_
      rw [h0, Finset.sum_range_one, zero_add]
      have : rowOf (n + 1) = rowOf 0 := Fin.ext h0
      rw [this]
    · refine (congrFun (outs_later V c X hD ⟨n + 1, hn⟩ h0) y).trans ?_
      have ih := outs_sum n (Nat.lt_of_succ_lt hn) y
      have e1 : (n + 1) % 24 = n % 24 + 1 := by omega
      have e2 : colOf (n + 1) hn = colOf n (Nat.lt_of_succ_lt hn) := Fin.ext (by show (n + 1) / 24 = n / 24; omega)
      have e3 : rowOf (n + 1) = rowOf (n % 24 + 1) := Fin.ext (by show (n + 1) % 24 = (n % 24 + 1) % 24; omega)
      rw [e1, Finset.sum_range_succ, e2]
      show (outsAt1 V c n _).1 y + part X (V c main_v1) (colOf n _) (rowOf (n + 1)) (y 0) (y 1) = _
      rw [ih, e3]

omit hD in
/-- The parts of the 24 blocks of tokens make the sum over all tokens. -/
theorem part_sum (Y : Vec Ideal S24576x5120 .bf16) (p : Fin 4) (i : Fin 2560) (j : Fin 1280) (C : Fin 5120) (hC : C.val = 1280 * p.val + j.val) :
    ∑ k ∈ Finset.range 24, part X Y p (rowOf k) i j = dwK X Y i C := by
  have hc : chan p j.val j.isLt = C := Fin.ext hC.symm
  unfold dwK
  rw [← Fin.sum_univ_eq_sum_range (fun k => part X Y p (rowOf k) i j) 24,
    ← (finProdFinEquiv (m := 24) (n := 1024)).sum_comp (fun t => deqK cX loX hiX X t i * deqK cY loY hiY Y t C), Fintype.sum_prod_type]
  refine Finset.sum_congr rfl fun k _ => ?_
  unfold part
  refine Finset.sum_congr rfl fun s _ => ?_
  have ht : tok (rowOf k.val) s.val s.isLt = finProdFinEquiv (k, s) := Fin.ext (by
    show 1024 * (k.val % 24) + s.val = s.val + 1024 * k.val
    omega)
  rw [ht, hc]

/-- The array of the product. -/
theorem dw_final : (dat1 V c).arrAt 2 cfg1.N = fun e => dwK X (V c main_v1) (e 0) (e 1) := by
  refine (dat1 V c).arrAt_eq_of_covers 2 _ (by decide +kernel) fun t hf y => ?_
  have hi := (idx1 t).2.2.1
  have h23 : t.val % 24 = 23 := (flush1_2 t).mp hf
  blk_simp
  rw [after1_2]
  refine (outs_sum V c X hD t.val t.isLt y).trans ?_
  rw [h23]
  have e0 : ((win1_2.blk t).view.emb y 0) = y 0 := Fin.ext (by
    show win1_2.index t 0 * 2560 + 1 * (y 0).val = (y 0).val; rw [hi]; show 0 * 2560 + 1 * (y 0).val = _; omega)
  refine (part_sum X _ _ _ _ _ ?_).trans (congrArg (fun i => dwK X (V c main_v1) i ((win1_2.blk t).view.emb y 1)) e0.symm)
  show win1_2.index t 1 * 1280 + 1 * (y 1).val = 1280 * (t.val / 24) + (y 1).val; rw [hi]; show t.val / 24 * 1280 + 1 * (y 1).val = _; omega

end

end Cert.KernelIdeal.Val

end
-- ==== Proof.KernelRun.lean ====
/- What the kernel's five result arrays hold after its run, as functions of the two arguments. -/
module

public import proofs.«01_k».proof.Proof.XArrays
public import proofs.«01_k».proof.Proof.YArrays
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Quant
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first argument with its tokens in one row axis. -/
abbrev xRows (x : Vec Ideal S4x6144x2560 .bf16) : Vec Ideal S24576x2560 .bf16 := shapeCast S24576x2560 x shapeCasts_S4x6144x2560_S24576x2560
/-- The second argument with its tokens in one row axis. -/
abbrev yRows (y : Vec Ideal S4x6144x5120 .bf16) : Vec Ideal S24576x5120 .bf16 := shapeCast S24576x5120 y shapeCasts_S4x6144x5120_S24576x5120

/-- The first region finds its operand at the reshaped first argument. -/
theorem V1_v0 (c : Dev nD) : V1 m ρ c main_v0 = xRows (m ((c : Thread nD τ).loc main_arg0)) := by
  show StableHlo.after hostOps0 (W0 m ρ c) (Proc.devRef .tc main_v0) = _
  entry_read
  rfl

/-- The second region finds its second operand at the reshaped second argument. -/
theorem V2_v1 (c : Dev nD) : V2 m ρ c main_v1 = yRows (m ((c : Thread nD τ).loc main_arg1)) := by
  refine (W2_of_ne m ρ c main_v1 (by decide)).trans ?_
  show StableHlo.after hostOps0 (W0 m ρ c) (Proc.devRef .tc main_v1) = _
  entry_read
  rfl

/-- The second region finds its first operand at what the first region dequantised. -/
theorem V2_v2_2 (c : Dev nD) : V2 m ρ c main_v2_2 = fun e => deqK cX loX hiX (xRows (m ((c : Thread nD τ).loc main_arg0))) (e 1) (e 0) := by
  refine (W2_arr m ρ c 3).trans ?_
  rw [deqX_final, V1_v0]

/-- The product. -/
theorem end_dw (c : Dev nD) : W4 m ρ c (Proc.devRef .tc main_v3_0)
    = fun e => dwK (xRows (m ((c : Thread nD τ).loc main_arg0))) (yRows (m ((c : Thread nD τ).loc main_arg1))) (e 0) (e 1) := by
  refine (W4_of m ρ c main_v3_0 (by decide)).trans ((W3_arr m ρ c 2).trans ?_)
  rw [dw_final (V2 m ρ) c _ (V2_v2_2 m ρ c), V2_v1]

/-- The first operand's codes. -/
theorem end_codesX (c : Dev nD) : W4 m ρ c (Proc.devRef .tc main_v2_0)
    = fun e => codeK cX loX hiX (xRows (m ((c : Thread nD τ).loc main_arg0))) (e 1) (e 0) := by
  refine (W4_of m ρ c main_v2_0 (by decide)).trans ((W3_of_ne m ρ c main_v2_0 (by decide)).trans ((W2_arr m ρ c 1).trans ?_))
  rw [codesX_final, V1_v0]

/-- The second operand's codes. -/
theorem end_codesY (c : Dev nD) : W4 m ρ c (Proc.devRef .tc main_v3_1)
    = fun e => codeK cY loY hiY (yRows (m ((c : Thread nD τ).loc main_arg1))) (e 1) (e 0) := by
  refine (W4_of m ρ c main_v3_1 (by decide)).trans ((W3_arr m ρ c 3).trans ?_)
  rw [codesY_final, V2_v1]

/-- The first operand's scales before the host's transpose. -/
theorem W3_scalesX (c : Dev nD) : W3 m ρ c (Proc.devRef .tc main_v2_1)
    = fun e => scaleK cX (xRows (m ((c : Thread nD τ).loc main_arg0))) (e 0) (e 2) := by
  refine (W3_of_ne m ρ c main_v2_1 (by decide)).trans ((W2_arr m ρ c 2).trans ?_)
  rw [scalesX_final, V1_v0]

/-- The second operand's scales before the host's transpose. -/
theorem W3_scalesY (c : Dev nD) : W3 m ρ c (Proc.devRef .tc main_v3_2)
    = fun e => scaleK cY (yRows (m ((c : Thread nD τ).loc main_arg1))) (e 0) (e 2) := by
  refine (W3_arr m ρ c 4).trans ?_
  rw [scalesY_final, V2_v1]

/-- The host's reshape and transpose of the first operand's scales. -/
theorem hostX (w : FVec Ideal S192x1x2560 .f32) (j : Fin 2560) (k : Fin 192) :
    transpose S2560x192 [1, 0] (shapeCast S192x2560 w shapeCasts_S192x1x2560_S192x2560) transposes_S192x2560_S2560x192_1_0 (ix2 j k) = w (ix3 k 0 j) := by
  pointwise

/-- The host's reshape and transpose of the second operand's scales. -/
theorem hostY (w : FVec Ideal S192x1x5120 .f32) (j : Fin 5120) (k : Fin 192) :
    transpose S5120x192 [1, 0] (shapeCast S192x5120 w shapeCasts_S192x1x5120_S192x5120) transposes_S192x5120_S5120x192_1_0 (ix2 j k) = w (ix3 k 0 j) := by
  pointwise

/-- The first operand's scales. -/
theorem end_scalesX (c : Dev nD) : W4 m ρ c (Proc.devRef .tc main_v5)
    = fun e => scaleK cX (xRows (m ((c : Thread nD τ).loc main_arg0))) (e 1) (e 0) := by
  have h : W4 m ρ c (Proc.devRef .tc main_v5)
      = transpose S2560x192 [1, 0] (shapeCast S192x2560 (W3 m ρ c (Proc.devRef .tc main_v2_1) : FVec Ideal S192x1x2560 .f32) shapeCasts_S192x1x2560_S192x2560)
        transposes_S192x2560_S2560x192_1_0 := by
    show StableHlo.after hostOps2 (W3 m ρ c) (Proc.devRef .tc main_v5) = _
    entry_read
    rfl
  rw [h]
  funext e
  idx_vars e
  refine (hostX _ _ _).trans ?_
  rw [W3_scalesX]; rfl

/-- The second operand's scales. -/
theorem end_scalesY (c : Dev nD) : W4 m ρ c (Proc.devRef .tc main_v7)
    = fun e => scaleK cY (yRows (m ((c : Thread nD τ).loc main_arg1))) (e 1) (e 0) := by
  have h : W4 m ρ c (Proc.devRef .tc main_v7)
      = transpose S5120x192 [1, 0] (shapeCast S192x5120 (W3 m ρ c (Proc.devRef .tc main_v3_2) : FVec Ideal S192x1x5120 .f32) shapeCasts_S192x1x5120_S192x5120)
        transposes_S192x5120_S5120x192_1_0 := by
    show StableHlo.after hostOps2 (W3 m ρ c) (Proc.devRef .tc main_v7) = _
    entry_read
    rfl
  rw [h]
  funext e
  idx_vars e
  refine (hostY _ _ _).trans ?_
  rw [W3_scalesY]; rfl

set_option backward.isDefEq.respectTransparency.types false in
/-- The run: every unscoped buffer ends at the last boundary's contents. -/
theorem run_ends : θ_run (defs (F := Ideal)) (onTc (τ := τ) (main (F := Ideal))) ⟨m, fun _ => 0, ρ⟩ (fun r =>
    ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The run: every result array in terms of the two arguments, which end unchanged. -/
theorem run : θ_run (defs (F := Ideal)) (onTc (τ := τ) (main (F := Ideal))) ⟨m, fun _ => 0, ρ⟩ (fun r => ∀ c : Dev nD,
    r.2.mem ((c.tc : Thread nD τ).loc main_v3_0) = (fun e => dwK (xRows (m ((c : Thread nD τ).loc main_arg0))) (yRows (m ((c : Thread nD τ).loc main_arg1))) (e 0) (e 1))
    ∧ r.2.mem ((c.tc : Thread nD τ).loc main_v2_0) = (fun e => codeK cX loX hiX (xRows (m ((c : Thread nD τ).loc main_arg0))) (e 1) (e 0))
    ∧ r.2.mem ((c.tc : Thread nD τ).loc main_v5) = (fun e => scaleK cX (xRows (m ((c : Thread nD τ).loc main_arg0))) (e 1) (e 0))
    ∧ r.2.mem ((c.tc : Thread nD τ).loc main_v3_1) = (fun e => codeK cY loY hiY (yRows (m ((c : Thread nD τ).loc main_arg1))) (e 1) (e 0))
    ∧ r.2.mem ((c.tc : Thread nD τ).loc main_v7) = (fun e => scaleK cY (yRows (m ((c : Thread nD τ).loc main_arg1))) (e 1) (e 0))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ?_) (run_ends m ρ)
  exact ⟨(h c _ (mem_uc main_v3_0 (by decide))).trans (end_dw m ρ c), (h c _ (mem_uc main_v2_0 (by decide))).trans (end_codesX m ρ c),
    (h c _ (mem_uc main_v5 (by decide))).trans (end_scalesX m ρ c), (h c _ (mem_uc main_v3_1 (by decide))).trans (end_codesY m ρ c),
    (h c _ (mem_uc main_v7 (by decide))).trans (end_scalesY m ρ c),
    (h c _ (mem_uc main_arg0 (by decide))).trans (W4_main_arg0 m ρ c), (h c _ (mem_uc main_arg1 (by decide))).trans (W4_main_arg1 m ρ c)⟩

end Cert.KernelIdeal.Val

end
-- ==== Proof.RefValue.lean ====
/- What the reference's payloads hold at an index. -/
module

public import proofs.«01_k».proof.Proof.Gen.ReferenceIdeal.Frame
public import proofs.«01_k».proof.Proof.Quant
public import Idealize.ShloMosaic.Lib.Pointwise

@[expose] public section

set_option maxRecDepth 16384

noncomputable section

namespace Cert.ReferenceIdeal.Val

open Idealize.ShloMosaic Idealize.ShloMosaic.TcCoe Idealize.ShloMosaic.Tactic Cert.ReferenceIdeal Cert.ReferenceIdeal.Gen Cert.Quant

/-- 24576 rows read as 192 blocks of 128. -/
theorem split_apply {α : Type} {C : Nat} (v : (⟨2, ![24576, C]⟩ : Shape).Idx → α) (h : (⟨2, ![24576, C]⟩ : Shape).ShapeCasts ⟨3, ![192, 128, C]⟩)
    (k : Fin 192) (t : Fin 128) (j : Fin C) :
    shapeCast ⟨3, ![192, 128, C]⟩ v h (ix3 k t j) = v (ix2 ⟨k.val * 128 + t.val, by omega⟩ j) := by
  refine shapeCast_apply v h _ _ ?_
  rw [rowMajor_val2 _ C (by show C = C; rfl), rowMajor_val3 _ (128 * C) C (by show 128 * C = 128 * C; rfl) (by show C = C; rfl)]
  show (k.val * 128 + t.val) * C + j.val = k.val * (128 * C) + t.val * C + j.val
  ring

theorem pay1_cast (v : Vec Ideal S24576x2560 .bf16) :
    k0_pay1 (F := Ideal) v = shapeCast S192x128x2560 (extf .f32 (φ := .bf16) v bitsLt_bf16_f32) shapeCasts_S24576x2560_S192x128x2560 := by
  unfold k0_pay1
  rw [shapeCast_self]

theorem pay1_apply (v : Vec Ideal S24576x2560 .bf16) (k : Fin 192) (t : Fin 128) (j : Fin 2560) :
    k0_pay1 (F := Ideal) v (ix3 k t j) = v (ix2 ⟨k.val * 128 + t.val, by omega⟩ j) :=
  (congrFun (pay1_cast v) _).trans
    (split_apply (C := 2560) (extf (F := Ideal) .f32 (φ := .bf16) v bitsLt_bf16_f32) shapeCasts_S24576x2560_S192x128x2560 k t j)

theorem pay5_cast (v : Vec Ideal S24576x5120 .bf16) :
    k0_pay5 (F := Ideal) v = shapeCast S192x128x5120 (extf .f32 (φ := .bf16) v bitsLt_bf16_f32) shapeCasts_S24576x5120_S192x128x5120 := by
  unfold k0_pay5
  rw [shapeCast_self]

theorem pay5_apply (v : Vec Ideal S24576x5120 .bf16) (k : Fin 192) (t : Fin 128) (j : Fin 5120) :
    k0_pay5 (F := Ideal) v (ix3 k t j) = v (ix2 ⟨k.val * 128 + t.val, by omega⟩ j) :=
  (congrFun (pay5_cast v) _).trans
    (split_apply (C := 5120) (extf (F := Ideal) .f32 (φ := .bf16) v bitsLt_bf16_f32) shapeCasts_S24576x5120_S192x128x5120 k t j)

/-- The named constant is the logarithm of two. -/
theorem named_ln2 (b : BitVec 32) : Named.named (F := Ideal) κ "ln2" (φ := .f32) b = ((Real.log 2 : ℝ) : EReal) := rfl

/-- The greatest magnitudes of the blocks. -/
def red {C : Nat} (t : Shape) (w : FVec Ideal ⟨3, ![192, 128, C]⟩ .f32) (h : (⟨3, ![192, 128, C]⟩ : Shape).Reduces [1] t) : FVec Ideal t .f32 :=
  multiReduction .maximumf [1] t (absf w) 0xFF800000#32 h (.inl rfl) rfl

theorem redX_apply (w : FVec Ideal S192x128x2560 .f32) (k : Fin 192) (j : Fin 2560) :
    red S192x2560 w reduces_S192x128x2560_S192x2560 (ix2 k j) = amax fun t => w (ix3 k t j) := by
  rw [← fold_amax]
  unfold red
  pointwise

theorem redY_apply (w : FVec Ideal S192x128x5120 .f32) (k : Fin 192) (j : Fin 5120) :
    red S192x5120 w reduces_S192x128x5120_S192x5120 (ix2 k j) = amax fun t => w (ix3 k t j) := by
  rw [← fold_amax]
  unfold red
  pointwise

/-- The exponents, from the greatest magnitudes. -/
def expo (s : Shape) (c : BitVec 32) (w : FVec Ideal s .f32) : FVec Ideal s .f32 :=
  select (cmpf .olt (mulf w (broadcast s (Scalar.ofBits .f32 c))) (broadcast s (Scalar.ofBits .f32 0x00800000#32)))
    (broadcast s (Scalar.ofBits .f32 0x00000000#32))
    (addf (floor (divf (log (mulf w (broadcast s (Scalar.ofBits .f32 c)))) (broadcast s (Named.named κ "ln2" 0x3F317218#32))))
      (broadcast s (Scalar.ofBits .f32 0x3F800000#32)))

theorem expo_apply (s : Shape) (c : BitVec 32) (w : FVec Ideal s .f32) (i : s.Idx) :
    expo s c w i = rexp (w i * Ideal.ofBits .f32 c) := by
  pointwise [expo]
  rw [named_ln2, rexp]
  simp only [bits_zero, bits_one]
  rfl

theorem pay2_eq (v : Vec Ideal S24576x2560 .bf16) :
    k0_pay2 (F := Ideal) v = expo S192x2560 0x3B124925#32 (red S192x2560 (k0_pay1 v) reduces_S192x128x2560_S192x2560) := rfl

/-- The exponent of block `k` of channel `j` of the first operand. -/
theorem pay2_apply (v : Vec Ideal S24576x2560 .bf16) (k : Fin 192) (j : Fin 2560) :
    k0_pay2 (F := Ideal) v (ix2 k j) = rexp (ratio cX v k j) := by
  rw [pay2_eq, expo_apply, redX_apply, ratio]
  simp only [pay1_apply]
  rfl

/-- The codes of the first operand, from its values in blocks and its exponents. -/
def codesX (w : FVec Ideal S192x128x2560 .f32) (e : FVec Ideal S192x2560 .f32) : FVec Ideal S2560x24576 .fp8e4m3 :=
  transpose S2560x24576 [1, 0] (shapeCast S24576x2560 (truncf .fp8e4m3
    (minimumf (broadcast S192x128x2560 (Scalar.ofBits .f32 0x43E00000#32)) (maximumf (broadcast S192x128x2560 (Scalar.ofBits .f32 0xC3E00000#32))
      (mulf w (broadcastTo S192x128x2560 (shapeCast S192x1x2560 (exp2 (subf (broadcast S192x2560 (Scalar.ofBits .f32 0x00000000#32)) e))
        shapeCasts_S192x2560_S192x1x2560) broadcasts_S192x1x2560_S192x128x2560)))) bitsLt_fp8e4m3_f32) shapeCasts_S192x128x2560_S24576x2560)
    transposes_S24576x2560_p1_0_S2560x24576

theorem codesX_apply (w : FVec Ideal S192x128x2560 .f32) (e : FVec Ideal S192x2560 .f32) (j : Fin 2560) (t : Fin 24576) :
    codesX w e (ix2 j t) = min hiX (max loX (w (ix3 ⟨t.val / 128, by omega⟩ ⟨t.val % 128, by omega⟩ j)
      * Ideal.exp2 (Ideal.ofBits .f32 0x00000000#32 - e (ix2 ⟨t.val / 128, by omega⟩ j)))) := by
  pointwise [codesX]
  rfl

theorem pay4_eq (v : Vec Ideal S24576x2560 .bf16) : k0_pay9 (k0_pay4 (F := Ideal) v) = codesX (k0_pay1 v) (k0_pay2 v) := rfl

/-- The first operand's code of token `t` and channel `j`. -/
theorem codeX_apply (v : Vec Ideal S24576x2560 .bf16) (j : Fin 2560) (t : Fin 24576) :
    k0_pay9 (k0_pay4 (F := Ideal) v) (ix2 j t) = codeAt cX loX hiX v t j := by
  rw [pay4_eq, codesX_apply, pay1_apply, pay2_apply]
  unfold codeAt rinv
  congr 4
  congr 1
  exact Fin.ext (by show t.val / 128 * 128 + t.val % 128 = t.val; omega)

/-- The first operand's scale of block `k` and channel `j`. -/
theorem scaleX_apply (v : Vec Ideal S24576x2560 .bf16) (j : Fin 2560) (k : Fin 192) :
    k0_pay10 (k0_pay3 (F := Ideal) v) (ix2 j k) = scaleAt cX v k j := by
  have h : ∀ e : FVec Ideal S192x2560 .f32, transpose S2560x192 [1, 0] (exp2 e) transposes_S192x2560_p1_0_S2560x192 (ix2 j k) = Ideal.exp2 (e (ix2 k j)) := by
    intro e; pointwise; rfl
  refine (h (k0_pay2 v)).trans ?_
  rw [pay2_apply]; rfl

/-- The codes of the second operand, from its values in blocks and its exponents. -/
def codesY (w : FVec Ideal S192x128x5120 .f32) (e : FVec Ideal S192x5120 .f32) : FVec Ideal S5120x24576 .fp8e5m2 :=
  transpose S5120x24576 [1, 0] (shapeCast S24576x5120 (truncf .fp8e5m2
    (minimumf (broadcast S192x128x5120 (Scalar.ofBits .f32 0x47600000#32)) (maximumf (broadcast S192x128x5120 (Scalar.ofBits .f32 0xC7600000#32))
      (mulf w (broadcastTo S192x128x5120 (shapeCast S192x1x5120 (exp2 (subf (broadcast S192x5120 (Scalar.ofBits .f32 0x00000000#32)) e))
        shapeCasts_S192x5120_S192x1x5120) broadcasts_S192x1x5120_S192x128x5120)))) bitsLt_fp8e5m2_f32) shapeCasts_S192x128x5120_S24576x5120)
    transposes_S24576x5120_p1_0_S5120x24576

theorem codesY_apply (w : FVec Ideal S192x128x5120 .f32) (e : FVec Ideal S192x5120 .f32) (j : Fin 5120) (t : Fin 24576) :
    codesY w e (ix2 j t) = min hiY (max loY (w (ix3 ⟨t.val / 128, by omega⟩ ⟨t.val % 128, by omega⟩ j)
      * Ideal.exp2 (Ideal.ofBits .f32 0x00000000#32 - e (ix2 ⟨t.val / 128, by omega⟩ j)))) := by
  pointwise [codesY]
  rfl

/-- The constant one. -/
abbrev one : Ideal .f32 := Scalar.ofBits .f32 0x3F800000#32

theorem pay8_eq (v : Vec Ideal S24576x5120 .bf16) :
    k0_pay8 (k0_pay6 (F := Ideal) v) (k0_pay7 v) one = expo S192x5120 0x37924925#32 (red S192x5120 (k0_pay5 v) reduces_S192x128x5120_S192x5120) := rfl

/-- The exponent of block `k` of channel `j` of the second operand. -/
theorem pay8_apply (v : Vec Ideal S24576x5120 .bf16) (k : Fin 192) (j : Fin 5120) :
    k0_pay8 (k0_pay6 (F := Ideal) v) (k0_pay7 v) one (ix2 k j) = rexp (ratio cY v k j) := by
  rw [pay8_eq, expo_apply, redY_apply, ratio]
  simp only [pay5_apply]
  rfl

theorem pay11_eq (v : Vec Ideal S24576x5120 .bf16) :
    k0_pay11 (k0_pay5 v) (k0_pay6 (F := Ideal) v) (k0_pay7 v) one = codesY (k0_pay5 v) (k0_pay8 (k0_pay6 (F := Ideal) v) (k0_pay7 v) one) := rfl

/-- The second operand's code of token `t` and channel `j`. -/
theorem codeY_apply (v : Vec Ideal S24576x5120 .bf16) (j : Fin 5120) (t : Fin 24576) :
    k0_pay11 (k0_pay5 v) (k0_pay6 (F := Ideal) v) (k0_pay7 v) one (ix2 j t) = codeAt cY loY hiY v t j := by
  rw [pay11_eq, codesY_apply, pay5_apply, pay8_apply]
  unfold codeAt rinv
  congr 4
  congr 1
  exact Fin.ext (by show t.val / 128 * 128 + t.val % 128 = t.val; omega)

/-- The second operand's scale of block `k` and channel `j`. -/
theorem scaleY_apply (v : Vec Ideal S24576x5120 .bf16) (j : Fin 5120) (k : Fin 192) :
    k0_pay12 (k0_pay6 (F := Ideal) v) (k0_pay7 v) one (ix2 j k) = scaleAt cY v k j := by
  have h : ∀ e : FVec Ideal S192x5120 .f32, transpose S5120x192 [1, 0] (exp2 e) transposes_S192x5120_p1_0_S5120x192 (ix2 j k) = Ideal.exp2 (e (ix2 k j)) := by
    intro e; pointwise; rfl
  refine (h (k0_pay8 (k0_pay6 (F := Ideal) v) (k0_pay7 v) one)).trans ?_
  rw [pay8_apply]; rfl

theorem pay13_apply (v18 : FVec Ideal S192x2560 .f32) (v30 : FVec Ideal S24576x2560 .fp8e4m3) (v34 : FVec Ideal S192x128x5120 .f32)
    (v38 v42 : FVec Ideal S192x5120 .f32) (c : Ideal .f32) (i : Fin 2560) (j : Fin 5120) :
    k0_pay13 v18 v30 v34 v38 v42 c (ix2 i j) = ∑ t : Fin 24576, k0_pay9 v30 (ix2 i t) * k0_pay10 v18 (ix2 i ⟨t.val / 128, by omega⟩)
      * (k0_pay11 v34 v38 v42 c (ix2 j t) * k0_pay12 v38 v42 c (ix2 j ⟨t.val / 128, by omega⟩)) := by
  pointwise [k0_pay13]

/-- The reference's product. -/
theorem dw_apply (x : Vec Ideal S24576x2560 .bf16) (y : Vec Ideal S24576x5120 .bf16) (i : Fin 2560) (j : Fin 5120) :
    k0_pay13 (k0_pay3 (F := Ideal) x) (k0_pay4 x) (k0_pay5 y) (k0_pay6 y) (k0_pay7 y) one (ix2 i j) = dwAt x y i j := by
  rw [pay13_apply]
  simp only [codeX_apply, scaleX_apply, codeY_apply, scaleY_apply]
  rfl

end Cert.ReferenceIdeal.Val

end
-- ==== Proof.RefRun.lean ====
/- What the reference's five result arrays hold after its run, as functions of the two arguments. -/
module

public import proofs.«01_k».proof.Proof.RefValue
public import Idealize.ShloMosaic.Lib.Pipeline.Value
public import Idealize.ShloMosaic.Lib.Claim

@[expose] public section

set_option maxRecDepth 16384

noncomputable section

namespace Cert.ReferenceIdeal.Val

open Idealize.ShloMosaic Idealize.ShloMosaic.TcCoe Idealize.ShloMosaic.Tactic Idealize.SL.Sem Cert.ReferenceIdeal Cert.ReferenceIdeal.Gen Cert.Quant
open Idealize.ShloMosaic.Pipeline (Dat Cfg Window)

variable (m : (ℓ : Loc nD τ sig) → Buf (Elt Ideal) ℓ) (ρ : Dev nD → PrngReg)

/-- The one grid point. -/
def t₀ : Fin cfg0.N := ⟨0, by decide⟩

/-- The first argument with its tokens in one row axis. -/
abbrev xRows (x : Vec Ideal S4x6144x2560 .bf16) : Vec Ideal S24576x2560 .bf16 := shapeCast S24576x2560 x shapeCasts_S4x6144x2560_S24576x2560
/-- The second argument with its tokens in one row axis. -/
abbrev yRows (y : Vec Ideal S4x6144x5120 .bf16) : Vec Ideal S24576x5120 .bf16 := shapeCast S24576x5120 y shapeCasts_S4x6144x5120_S24576x5120

/-- The region finds the first operand's array at the reshaped first argument. -/
theorem V_v0 (c : Dev nD) : V m c main_v0 = xRows (m ((c : Thread nD τ).loc main_arg0)) := by
  entry_read
  rfl

/-- The region finds the second operand's array at the reshaped second argument. -/
theorem V_v1 (c : Dev nD) : V m c main_v1 = yRows (m ((c : Thread nD τ).loc main_arg1)) := by
  entry_read
  rfl

/-- A result array read through its one block is what the one point wrote back. -/
theorem final_out (c : Dev nD) (w : Fin cfg0.W) (hw : (cfg0.win w).flush t₀ = true) :
    ((cfg0.win w).blk t₀).view.read (Elt Ideal) ((dats m 0 c).arrAt w cfg0.N) = (dats m 0 c).flushed w t₀ := by
  rw [show cfg0.N = (t₀ : Fin cfg0.N).val + 1 from rfl, (dats m 0 c).arrAt_succ w t₀, hw, if_pos rfl]
  exact View.read_write_univ _ _

theorem hz2 : (![0, 0] : Fin 2 → Nat) = fun _ => 0 := funext fun a => by fin_cases a <;> rfl

/-- The first input block is the reshaped first argument. -/
theorem iblk_x (c : Dev nD) : iblk m c 0 t₀ = xRows (m ((c : Thread nD τ).loc main_arg0)) := by
  have hz : (fun a => (win0_0.index t₀) a * main_v0.ty.shape.size a) = fun _ => 0 := funext fun a => by fin_cases a <;> decide
  have hr := fun f => Memref.read_access_unit_zero (Elt Ideal) main_v0 hz (fun a => by fin_cases a <;> decide) f
  unfold iblk
  exact (hr _).trans (V_v0 m c)

/-- The second input block is the reshaped second argument. -/
theorem iblk_y (c : Dev nD) : iblk m c 1 t₀ = yRows (m ((c : Thread nD τ).loc main_arg1)) := by
  have hz : (fun a => (win0_1.index t₀) a * main_v1.ty.shape.size a) = fun _ => 0 := funext fun a => by fin_cases a <;> decide
  have hr := fun f => Memref.read_access_unit_zero (Elt Ideal) main_v1 hz (fun a => by fin_cases a <;> decide) f
  unfold iblk
  exact (hr _).trans (V_v1 m c)

/-- The product the body leaves. -/
theorem out2 (x : Vec Ideal S24576x2560 .bf16) (y : Vec Ideal S24576x5120 .bf16) : out0_2 x y = fun e => dwAt x y (e 0) (e 1) := by
  unfold_out out0_2
  rw [View.canon_unit_zero hz2, View.ld_unit_zero hz2, View.ld_unit_zero hz2]
  funext e
  idx_vars e
  exact dw_apply x y _ _

/-- The first operand's codes. -/
theorem out3 (x : Vec Ideal S24576x2560 .bf16) (y : Vec Ideal S24576x5120 .bf16) : out0_3 x y = fun e => codeAt cX loX hiX x (e 1) (e 0) := by
  unfold_out out0_3
  rw [View.canon_unit_zero hz2, View.ld_unit_zero hz2]
  funext e
  idx_vars e
  exact codeX_apply x _ _

/-- The first operand's scales. -/
theorem out4 (x : Vec Ideal S24576x2560 .bf16) (y : Vec Ideal S24576x5120 .bf16) : out0_4 x y = fun e => scaleAt cX x (e 1) (e 0) := by
  unfold_out out0_4
  rw [View.canon_unit_zero hz2, View.ld_unit_zero hz2]
  funext e
  idx_vars e
  exact scaleX_apply x _ _

/-- The second operand's codes. -/
theorem out5 (x : Vec Ideal S24576x2560 .bf16) (y : Vec Ideal S24576x5120 .bf16) : out0_5 x y = fun e => codeAt cY loY hiY y (e 1) (e 0) := by
  unfold_out out0_5
  rw [View.canon_unit_zero hz2, View.ld_unit_zero hz2]
  funext e
  idx_vars e
  exact codeY_apply y _ _

/-- The second operand's scales. -/
theorem out6 (x : Vec Ideal S24576x2560 .bf16) (y : Vec Ideal S24576x5120 .bf16) : out0_6 x y = fun e => scaleAt cY y (e 1) (e 0) := by
  unfold_out out0_6
  rw [View.canon_unit_zero hz2, View.ld_unit_zero hz2]
  funext e
  idx_vars e
  exact scaleY_apply y _ _

/-- The array of the product after the run. -/
theorem final2 (c : Dev nD) : (dats m 0 c).arrAt 2 cfg0.N = fun e => dwAt (xRows (m ((c : Thread nD τ).loc main_arg0))) (yRows (m ((c : Thread nD τ).loc main_arg1))) (e 0) (e 1) := by
  have ho := final_out m c 2 (by decide)
  have hz : (fun a => (win0_2.index t₀) a * main_v2_0.ty.shape.size a) = fun _ => 0 := funext fun a => by fin_cases a <;> decide
  have hr := fun f => Memref.read_access_unit_zero (Elt Ideal) main_v2_0 hz (fun a => by fin_cases a <;> decide) f
  refine (hr _).symm.trans (ho.trans ?_)
  show (cfg0.win 2).cut _ ((dats m 0 c).after 2 t₀) = _
  rw [after0_2, iblk_x, iblk_y, out2]

/-- The array of the first operand's codes after the run. -/
theorem final3 (c : Dev nD) : (dats m 0 c).arrAt 3 cfg0.N = fun e => codeAt cX loX hiX (xRows (m ((c : Thread nD τ).loc main_arg0))) (e 1) (e 0) := by
  have ho := final_out m c 3 (by decide)
  have hz : (fun a => (win0_3.index t₀) a * main_v2_1.ty.shape.size a) = fun _ => 0 := funext fun a => by fin_cases a <;> decide
  have hr := fun f => Memref.read_access_unit_zero (Elt Ideal) main_v2_1 hz (fun a => by fin_cases a <;> decide) f
  refine (hr _).symm.trans (ho.trans ?_)
  show (cfg0.win 3).cut _ ((dats m 0 c).after 3 t₀) = _
  rw [after0_3, iblk_x, iblk_y, out3]

/-- The array of the first operand's scales after the run. -/
theorem final4 (c : Dev nD) : (dats m 0 c).arrAt 4 cfg0.N = fun e => scaleAt cX (xRows (m ((c : Thread nD τ).loc main_arg0))) (e 1) (e 0) := by
  have ho := final_out m c 4 (by decide)
  have hz : (fun a => (win0_4.index t₀) a * main_v2_2.ty.shape.size a) = fun _ => 0 := funext fun a => by fin_cases a <;> decide
  have hr := fun f => Memref.read_access_unit_zero (Elt Ideal) main_v2_2 hz (fun a => by fin_cases a <;> decide) f
  refine (hr _).symm.trans (ho.trans ?_)
  show (cfg0.win 4).cut _ ((dats m 0 c).after 4 t₀) = _
  rw [after0_4, iblk_x, iblk_y, out4]

/-- The array of the second operand's codes after the run. -/
theorem final5 (c : Dev nD) : (dats m 0 c).arrAt 5 cfg0.N = fun e => codeAt cY loY hiY (yRows (m ((c : Thread nD τ).loc main_arg1))) (e 1) (e 0) := by
  have ho := final_out m c 5 (by decide)
  have hz : (fun a => (win0_5.index t₀) a * main_v2_3.ty.shape.size a) = fun _ => 0 := funext fun a => by fin_cases a <;> decide
  have hr := fun f => Memref.read_access_unit_zero (Elt Ideal) main_v2_3 hz (fun a => by fin_cases a <;> decide) f
  refine (hr _).symm.trans (ho.trans ?_)
  show (cfg0.win 5).cut _ ((dats m 0 c).after 5 t₀) = _
  rw [after0_5, iblk_x, iblk_y, out5]

/-- The array of the second operand's scales after the run. -/
theorem final6 (c : Dev nD) : (dats m 0 c).arrAt 6 cfg0.N = fun e => scaleAt cY (yRows (m ((c : Thread nD τ).loc main_arg1))) (e 1) (e 0) := by
  have ho := final_out m c 6 (by decide)
  have hz : (fun a => (win0_6.index t₀) a * main_v2_4.ty.shape.size a) = fun _ => 0 := funext fun a => by fin_cases a <;> decide
  have hr := fun f => Memref.read_access_unit_zero (Elt Ideal) main_v2_4 hz (fun a => by fin_cases a <;> decide) f
  refine (hr _).symm.trans (ho.trans ?_)
  show (cfg0.win 6).cut _ ((dats m 0 c).after 6 t₀) = _
  rw [after0_6, iblk_x, iblk_y, out6]

/-- The run: every result array in terms of the two arguments, which end unchanged. -/
theorem run : θ_run (defs (F := Ideal)) (onTc (τ := τ) (main (F := Ideal))) ⟨m, fun _ => 0, ρ⟩ (fun r => ∀ c : Dev nD,
    r.2.mem ((c.tc : Thread nD τ).loc main_v2_0) = (fun e => dwAt (xRows (m ((c : Thread nD τ).loc main_arg0))) (yRows (m ((c : Thread nD τ).loc main_arg1))) (e 0) (e 1))
    ∧ r.2.mem ((c.tc : Thread nD τ).loc main_v2_1) = (fun e => codeAt cX loX hiX (xRows (m ((c : Thread nD τ).loc main_arg0))) (e 1) (e 0))
    ∧ r.2.mem ((c.tc : Thread nD τ).loc main_v2_2) = (fun e => scaleAt cX (xRows (m ((c : Thread nD τ).loc main_arg0))) (e 1) (e 0))
    ∧ r.2.mem ((c.tc : Thread nD τ).loc main_v2_3) = (fun e => codeAt cY loY hiY (yRows (m ((c : Thread nD τ).loc main_arg1))) (e 1) (e 0))
    ∧ r.2.mem ((c.tc : Thread nD τ).loc main_v2_4) = (fun e => scaleAt cY (yRows (m ((c : Thread nD τ).loc main_arg1))) (e 1) (e 0))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ?_) (θ_run_and (run_main m ρ) (unchanged m ρ))
  exact ⟨((h.1 c).1 2).trans (final2 m c), ((h.1 c).1 3).trans (final3 m c), ((h.1 c).1 4).trans (final4 m c),
    ((h.1 c).1 5).trans (final5 m c), ((h.1 c).1 6).trans (final6 m c), (h.2 c).1, (h.2 c).2⟩

end Cert.ReferenceIdeal.Val

end
-- ==== Proof.Equation.lean ====
/- The kernel's results are the reference's, where the arguments' values are at most the largest finite bfloat16 in magnitude. -/
module

public import proofs.«01_k».proof.Defs
public import proofs.«01_k».proof.Proof.Bounds
public import proofs.«01_k».proof.Proof.KernelRun
public import proofs.«01_k».proof.Proof.RefRun

@[expose] public section

set_option maxRecDepth 16384

noncomputable section

namespace Cert.Proof

open Idealize.ShloMosaic Idealize.ShloMosaic.TcCoe Idealize.SL.Sem
open Cert.Quant

/-- From arguments that agree and meet the precondition, the kernel and the reference both run, and end with the same product, the
    same codes and the same scales, their arguments unchanged. -/
theorem equation : algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hm
  have bx := fun (c : Dev _) i => Cert.Pre_finite.bound_x _ _ (hpre c).1 i
  have by' := fun (c : Dev _) i => Cert.Pre_finite.bound_y _ _ (hpre c).2 i
  have hx : ∀ (c : Dev Cert.KernelIdeal.nD) i, max (Cert.KernelIdeal.Val.xRows (m (c.tc.loc Cert.KernelIdeal.main_arg0)) i : EReal)
      (-(Cert.KernelIdeal.Val.xRows (m (c.tc.loc Cert.KernelIdeal.main_arg0)) i : EReal)) ≤ (((2 : ℝ) ^ 128 : ℝ) : EReal) := fun c _ => bx c _
  have hy : ∀ (c : Dev Cert.KernelIdeal.nD) i, max (Cert.KernelIdeal.Val.yRows (m (c.tc.loc Cert.KernelIdeal.main_arg1)) i : EReal)
      (-(Cert.KernelIdeal.Val.yRows (m (c.tc.loc Cert.KernelIdeal.main_arg1)) i : EReal)) ≤ (((2 : ℝ) ^ 128 : ℝ) : EReal) := fun c _ => by' c _
  refine ⟨_, _, _, _, _, Cert.KernelIdeal.Val.run m g, (θ_run _ _ _).mono (fun r h c => ?_) (Cert.ReferenceIdeal.Val.run m' g')⟩
  obtain ⟨h0, h1, h2, h3, h4, ha, hb⟩ := h c
  have e0 : Cert.ReferenceIdeal.Val.xRows (m' (c.tc.loc Cert.ReferenceIdeal.main_arg0)) = Cert.KernelIdeal.Val.xRows (m (c.tc.loc Cert.KernelIdeal.main_arg0)) :=
    congrArg Cert.ReferenceIdeal.Val.xRows (hm c).1
  have e1 : Cert.ReferenceIdeal.Val.yRows (m' (c.tc.loc Cert.ReferenceIdeal.main_arg1)) = Cert.KernelIdeal.Val.yRows (m (c.tc.loc Cert.KernelIdeal.main_arg1)) :=
    congrArg Cert.ReferenceIdeal.Val.yRows (hm c).2
  rw [e0, e1] at h0
  rw [e0] at h1 h2
  rw [e1] at h3 h4
  refine ⟨h0.trans ?_, h1.trans ?_, h2.trans ?_, h3.trans ?_, h4.trans ?_, ha, hb⟩
  · exact funext fun e => (dwK_eq _ _ (hx c) (hy c) (e 0) (e 1)).symm
  · exact funext fun e => (codeK_eq cX loX hiX cX_bounds _ (hx c) (e 1) (e 0)).symm
  · exact funext fun e => (scaleK_eq cX cX_bounds _ (hx c) (e 1) (e 0)).symm
  · exact funext fun e => (codeK_eq cY loY hiY cY_bounds _ (hy c) (e 1) (e 0)).symm
  · exact funext fun e => (scaleK_eq cY cY_bounds _ (hy c) (e 1) (e 0)).symm

end Cert.Proof

end
-- ==== Proof.lean ====
/- The certificate of the quantise-and-multiply kernel: the claims of `proof/Defs.lean`, assembled. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Equation

@[expose] public section

noncomputable section

namespace Cert.Proof

open Idealize.ShloMosaic Idealize.SL.Sem Cert.Kernel

/-- Every claim of `proof/Defs.lean`. -/
theorem claim : Cert.Claim := ⟨Cert.Kernel.Gen.facts, Cert.KernelIdeal.Gen.facts, Cert.ReferenceIdeal.Gen.facts, Cert.Pre_finite.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  equation⟩

end Cert.Proof

end
